-- ==== Defs.lean ====
def Pre_Kernel [hPre_ids_in_rows : Cert.Pre_ids_in_rows.Facts] (m : (ℓ : Loc Cert.Kernel.nD Cert.Kernel.τ Cert.Kernel.sig) → Buf (Elt Bits) ℓ) : Prop :=
  ∀ c : Dev Cert.Kernel.nD,
    (Cert.Pre_ids_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_rows : Cert.Pre_ids_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_rows [hPre_ids_in_rows : Cert.Pre_ids_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_rows : Cert.Pre_ids_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_rows [hReferenceIdeal : Cert.ReferenceIdeal.Facts] [hPre_ids_in_rows : Cert.Pre_ids_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_rows : Cert.Pre_ids_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_rows : Cert.Pre_ids_in_rows.Facts),
    quiescent_Kernel (hKernel := hKernel) (hPre_ids_in_rows := hPre_ids_in_rows)
    ∧ quiescent_KernelIdeal (hKernelIdeal := hKernelIdeal) (hPre_ids_in_rows := hPre_ids_in_rows)
    ∧ quiescent_ReferenceIdeal (hReferenceIdeal := hReferenceIdeal)
    ∧ quiescent_ReferenceIdeal_pre_ids_in_rows (hReferenceIdeal := hReferenceIdeal) (hPre_ids_in_rows := hPre_ids_in_rows)
    ∧ preserves_Kernel_KernelIdeal
    ∧ algebraic_KernelIdeal_ReferenceIdeal (hKernelIdeal := hKernelIdeal) (hReferenceIdeal := hReferenceIdeal) (hPre_ids_in_rows := hPre_ids_in_rows)
-- ==== Pre_ids_in_rows.lean ====
abbrev S16384 : Shape := ⟨1, ![16384]⟩
abbrev S1000000x32 : Shape := ⟨2, ![1000000, 32]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S1000000x32 .f32) (main_arg2 : FVec F S1000000x32 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== Kernel.lean ====
abbrev S16384 : Shape := ⟨1, ![16384]⟩
abbrev S1000000x32 : Shape := ⟨2, ![1000000, 32]⟩
abbrev S128x128 : Shape := ⟨2, ![128, 128]⟩
abbrev S16384x64 : Shape := ⟨2, ![16384, 64]⟩
abbrev S4x128 : Shape := ⟨2, ![4, 128]⟩
abbrev S4x128x32 : Shape := ⟨3, ![4, 128, 32]⟩
abbrev S_ : Shape := ⟨0, ![]⟩
abbrev S1x128x16 : Shape := ⟨3, ![1, 128, 16]⟩
abbrev S128x16 : Shape := ⟨2, ![128, 16]⟩
abbrev S1x128 : Shape := ⟨2, ![1, 128]⟩
abbrev S128 : Shape := ⟨1, ![128]⟩
abbrev S1000000x16 : Shape := ⟨2, ![1000000, 16]⟩
abbrev S1x128x32 : Shape := ⟨3, ![1, 128, 32]⟩
abbrev S128x32 : Shape := ⟨2, ![128, 32]⟩

abbrev nBuf : Table → Nat
  | .hbm => 5
  | .local .scVector .vmem => 3
  | _ => 0

abbrev bufTy : (tb : Table) → Fin (nBuf tb) → BufTy
  | .hbm, ⟨0, _⟩ => ⟨S16384, .i32⟩
  | .hbm, ⟨1, _⟩ => ⟨S1000000x32, .f32⟩
  | .hbm, ⟨2, _⟩ => ⟨S1000000x32, .f32⟩
  | .hbm, ⟨3, _⟩ => ⟨S128x128, .i32⟩
  | .hbm, ⟨4, _⟩ => ⟨S16384x64, .f32⟩
  | .local .scVector .vmem, ⟨0, _⟩ => ⟨S4x128, .i32⟩
  | .local .scVector .vmem, ⟨1, _⟩ => ⟨S4x128x32, .f32⟩
  | .local .scVector .vmem, ⟨2, _⟩ => ⟨S4x128x32, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_338_r0 : BitVec 32 := 0#32
  ![v2.toNat, 0]
def k0_off2 (i : grid0.Coords) (c0_i32_220 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v163 : BitVec 32 := Scalar.addi v2 c0_i32_220
  let c128_i32 : BitVec 32 := 128#32
  let v164 : BitVec 32 := Scalar.muli v163 c128_i32
  let c0_i32_224 : BitVec 32 := 0#32
  ![v164.toNat, 0]
def k0_off3 (i : grid0.Coords) (c0_i32_220 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v163 : BitVec 32 := Scalar.addi v2 c0_i32_220
  let c128_i32 : BitVec 32 := 128#32
  let v164 : BitVec 32 := Scalar.muli v163 c128_i32
  let c32_i32 : BitVec 32 := 32#32
  ![v164.toNat, 32]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S1000000x32 : Shape := ⟨2, ![1000000, 32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x64 : Shape := ⟨2, ![16384, 64]⟩

abbrev nBuf : Space → Nat
  | .hbm => 50
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x32, .f32⟩
  | .hbm, ⟨2, _⟩ => ⟨S1000000x32, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x32, .f32⟩
  | .hbm, ⟨22, _⟩ => ⟨S16384x32, .i1⟩
  | .hbm, ⟨23, _⟩ => ⟨S_, .f32⟩
  | .hbm, ⟨24, _⟩ => ⟨S16384x32, .f32⟩
  | .hbm, ⟨25, _⟩ => ⟨S16384x32, .f32⟩
  | .hbm, ⟨26, _⟩ => ⟨S_, .i32⟩
  | .hbm, ⟨27, _⟩ => ⟨S16384, .i32⟩
  | .hbm, ⟨28, _⟩ => ⟨S16384, .i1⟩
  | .hbm, ⟨29, _⟩ => ⟨S_, .i32⟩
  | .hbm, ⟨30, _⟩ => ⟨S16384, .i32⟩
  | .hbm, ⟨31, _⟩ => ⟨S16384, .i32⟩
  | .hbm, ⟨32, _⟩ => ⟨S16384, .i32⟩
  | .hbm, ⟨33, _⟩ => ⟨S16384x1, .i32⟩
  | .hbm, ⟨34, _⟩ => ⟨S1, .i32⟩
  | .hbm, ⟨35, _⟩ => ⟨S_, .i32⟩
  | .hbm, ⟨36, _⟩ => ⟨S16384x1, .i32⟩
  | .hbm, ⟨37, _⟩ => ⟨S16384x1, .i1⟩
  | .hbm, ⟨38, _⟩ => ⟨S1x1, .i32⟩
  | .hbm, ⟨39, _⟩ => ⟨S16384x1, .i32⟩
  | .hbm, ⟨40, _⟩ => ⟨S16384x1, .i1⟩
  | .hbm, ⟨41, _⟩ => ⟨S16384x1, .i1⟩
  | .hbm, ⟨42, _⟩ => ⟨S_, .i1⟩
  | .hbm, ⟨43, _⟩ => ⟨S16384, .i1⟩
  | .hbm, ⟨44, _⟩ => ⟨S16384x32, .f32⟩
  | .hbm, ⟨45, _⟩ => ⟨S16384x32, .i1⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩

abbrev nD : Nat := 1
abbrev τ : Topo := Topo.v7x

variable {F : FTy → Type} [FloatOps F]
-- ==== Proof.Gather.Batch.lean ====
/-
  INDIRECT GATHERS COUNTED ON ONE SEMAPHORE. The kernel starts sixteen indirect gathers on one DMA semaphore before it
  waits for any of them. Each gather is a stream of row transfers, one per entry of its list of row numbers, and every
  row pays the same credit. So all the rows of all the gathers together are one batch of equal transfers
  (`Transfers.Batch`), numbered gather by gather: row `k` of gather `i` is transfer `o * i + k`. This file states the
  rule that starts gather `i` as the next `o` transfers of such a batch, and how the rows of one gather join again.
-/
module

public import Idealize.ShloMosaic.Lib.Batch
public import Idealize.ShloMosaic.Lib.SparseCore.Stream

@[expose] public section

noncomputable section

namespace Cert.Proof.Gather

open Idealize.ShloMosaic
open Idealize.ShloMosaic.SparseCore (rows rowOf rowOf_of_lt gatherRow gatherPayload enqueueIndirectGather enqueueIndirectGather_bind rowShape_numel_pos)
open Idealize.ShloMosaic.Transfers (Batch batchBody pending batch_creditUpdate)
open Idealize.SL Idealize.SL.RA Idealize.SL.BI
open scoped Idealize.SL.BI
open Idealize.SL.BI.BIBase Idealize.SL.BI.Laws Idealize.SL.Sem Idealize.SL.ProofMode

/-! ## Families over groups of equal size -/

section Groups

variable {M : Type} [URA M] {m o : ℕ}

/-- A family over the transfers of `m` groups of `o`, given group by group. -/
def grouped {β : Type} (D : Fin m → Fin o → β) (t : Fin (m * o)) : β :=
  D (finProdFinEquiv.symm t).1 (finProdFinEquiv.symm t).2

/-- Transfer `k` of group `i` of a grouped family is the family's own member. -/
theorem grouped_apply {β : Type} (D : Fin m → Fin o → β) (i : Fin m) (k : Fin o) :
    grouped D (finProdFinEquiv (i, k)) = D i k := by unfold grouped; rw [Equiv.symm_apply_apply]

/-- All the transfers of all the groups, group by group. -/
theorem bigSep_grouped (D : Fin m → Fin o → sProp M) :
    bigSep Finset.univ (grouped D) = bigSep Finset.univ fun i => bigSep Finset.univ fun k => D i k := by
  rw [bigSep_univ_equiv finProdFinEquiv, bigSep_univ_prod]
  exact bigSep_congr fun i _ => bigSep_congr fun k _ => grouped_apply D i k

/-- The transfers of group `i`. -/
def group (i : Fin m) : Fin o ↪ Fin (m * o) :=
  ⟨fun k => finProdFinEquiv (i, k), fun _ _ h => (Prod.mk.inj (finProdFinEquiv.injective h)).2⟩

theorem group_val (i : Fin m) (k : Fin o) : (group i k).val = k.val + o * i.val := rfl

/-- The transfers not yet started when the groups before `i` have been are group `i`'s and those of the groups after. -/
theorem bigSep_pending_group (Φ : Fin (m * o) → sProp M) (i : Fin m) :
    bigSep (pending (o * i)) Φ
      = iprop((bigSep Finset.univ fun k : Fin o => Φ (group i k)) ∗ bigSep (pending (o * (i + 1))) Φ) := by
  classical
  have hm : ∀ (k : ℕ) (t : Fin (m * o)), t ∈ pending (n := m * o) k ↔ k ≤ t.val := fun k t => by simp [pending]
  have hu : pending (n := m * o) (o * i) = Finset.univ.map (group i) ∪ pending (o * (i + 1)) := by
    ext t
    rw [Finset.mem_union, hm, hm, Finset.mem_map, Nat.mul_add, Nat.mul_one]
    constructor
    · intro h
      by_cases h' : o * i.val + o ≤ t.val
      · exact .inr h'
      · refine .inl ⟨⟨t.val - o * i.val, by omega⟩, Finset.mem_univ _, Fin.ext ?_⟩
        rw [group_val]; show t.val - o * i.val + o * i.val = t.val; omega
    · rintro (⟨k, -, rfl⟩ | h)
      · rw [group_val]; omega
      · omega
  have hd : Disjoint (Finset.univ.map (group i)) (pending (n := m * o) (o * (i + 1))) := by
    rw [Finset.disjoint_left]
    intro t ht ht'
    obtain ⟨k, -, rfl⟩ := Finset.mem_map.mp ht
    have := k.isLt
    rw [hm, group_val, Nat.mul_add, Nat.mul_one] at ht'
    omega
  rw [hu, bigSep_union hd, bigSep_map]; rfl

end Groups

/-! ## The rows of one gather -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The index of the list that names the row of entry `k`. -/
def entryOf {o : ℕ} (hn : si.numel = o) (k : Fin o) : si.Idx := si.rowMajor.symm (k.cast hn.symm)

theorem entryOf_bijective {o : ℕ} (hn : si.numel = o) : Function.Bijective (entryOf (si := si) hn) :=
  si.rowMajor.symm.bijective.comp (finCongr hn.symm).bijective

/-- What row `k` of a gather brings back when it lands: row `k` of the destination at the contents `gd`, its entry of
    the list and its piece of the source's share. -/
def rowGot (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (gd : Buf (Elt F) (dst.view.loc c)) (fo : Buf (Elt F) (offs.view.loc c))
    (k : Fin (s.size hg.axis')) : sProp 𝕄 :=
  iprop(((dst.view.loc c ↦[(dst.view.slice (s.rowRect hg.axis' k)).set]{fullShare} gd)
      ∗ (offs.view.loc c ↦[{offs.view.emb (entryOf hn k)}]{qo} fo)) ∗ (src.view.loc c ↦[src.view.set]{pieceOf q _ ho k} fs))

instance rowGot_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (gd : Buf (Elt F) (dst.view.loc c)) (fo : Buf (Elt F) (offs.view.loc c))
    (k : Fin (s.size hg.axis')) :
    Storable (upEmb : UEmb _ 𝕄) (rowGot c src dst hg offs hn ho q qo fs gd fo k : sProp 𝕄) := by
  unfold rowGot; infer_instance

/-- All the rows of a gather, landed: the destination whole at `gd`, the source's share and the list's share whole. -/
theorem rowGot_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (gd : Buf (Elt F) (dst.view.loc c)) (fo : Buf (Elt F) (offs.view.loc c)) :
    bigSep Finset.univ (rowGot c src dst hg offs hn ho q qo fs gd fo)
      ⊢ (iprop((dst.view.loc c ↦[dst.view.set]{fullShare} gd) ∗ (offs.view.loc c ↦[offs.view.set]{qo} fo)
          ∗ (src.view.loc c ↦[src.view.set]{q} fs)) : sProp 𝕄) := by
  unfold rowGot
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]; · iapply (Entails.of_eq (pointsTo_rows c dst.view hg.axis' fullShare gd).symm) $$ Hd
  isplitl [Ho]; · iapply (Entails.of_eq (pointsTo_entries c offs.view (entryOf hn) (entryOf_bijective hn) qo fo).symm) $$ Ho
  iapply (Entails.of_eq (pointsTo_piecesOf (src.view.set) fs ho q).symm) $$ Hs

/-! ## The rule -/

/-- An indirect gather at the head of a program, started as group `i` of a batch on its semaphore whose groups before
    `i` have been started and none waited for. Handed in: a share of the source, the destination outright and a share
    of the list, whose words name rows of the source (`hin`). `gd` is what the buffer holds once the gather has landed:
    on the destination, row `offs[k]` of the source at row `k` (`hgd`). Row `k`, landed, makes the batch's delivery
    `D i k` (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd gd : Buf (Elt F) (dst.view.loc c)} {fo : Buf (Elt F) (offs.view.loc c)}
    (ι : Ix) (N : ℕ) {m : ℕ} (i : Fin m) (D : Fin m → Fin (s.size hg.axis') → sProp 𝕄)
    (hN : ∀ j, (dst.slice (s.rowRect hg.axis' j) (s.stride_rowRect hg.axis' j)).view.dmaCredit = N)
    (ho : 0 < s.size hg.axis') (hin : ∀ x, (offs.view.read (Elt F) fo x).toNat < s₀.size hg.axis)
    (hgd : ∀ x, gd (dst.view.emb x)
      = _root_.cast (congrArg (Elt F) dst.view.elt_eq.symm) (gatherPayload hg (src.view.read (Elt F) fs) (rows (offs.view.read (Elt F) fo) hn hin) x))
    (hD : ∀ j, rowGot c src dst hg offs hn ho q qo fs gd fo j ⊢ D i j) :
    iprop((src.view.loc c ↦[src.view.set]{q} fs) ∗ (dst.view.loc c ↦[dst.view.set]{fullShare} fd)
        ∗ (offs.view.loc c ↦[offs.view.set]{qo} fo) ∗ Batch EC c (.dma sem) ι N (grouped D) (s.size hg.axis' * i) 0)
      ⊢ iprop((Batch EC c (.dma sem) ι N (grouped D) (s.size hg.axis' * (i + 1)) 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let w : (j : Fin (s.size hg.axis')) → (s.rowShape hg.axis').Idx → Elt F e := fun j x => src.view.read (Elt F) fs (hg.rowIdx (r j) x)
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N :=
    SparseCore.sum_rowCredit_eq (K := N) _ hN rfl
  have hw : ∀ j y, w j y = gatherPayload hg (src.view.read (Elt F) fs) r ((s.rowRect hg.axis' j).emb y) := fun j y => by
    unfold gatherPayload; rw [Shape.Gathers.idx_rowRect_emb]
  -- the row, written, is the row at `gd`
  have hrow : ∀ j, ((dst.view.loc c ↦[(dst.view.slice (s.rowRect hg.axis' j)).set]{fullShare}
        ((dst.view.slice (s.rowRect hg.axis' j)).write (Elt F) fd (w j) Finset.univ)) : sProp 𝕄)
      = (dst.view.loc c ↦[(dst.view.slice (s.rowRect hg.axis' j)).set]{fullShare} gd) := fun j => by
    refine pointsTo_congr fun x hx => ?_
    obtain ⟨y, -, rfl⟩ := Finset.mem_map.mp hx
    refine (View.write_emb_of_mem (Val := Elt F) (v := dst.view.slice (s.rowRect hg.axis' j)) fd (w j) (Finset.mem_univ y)).trans ?_
    refine Eq.trans (congrArg (_root_.cast _) (hw j y)) (hgd ((s.rowRect hg.axis' j).emb y)).symm
  have hgot : ∀ j, iprop(((dst.view.loc c ↦[(dst.view.slice (s.rowRect hg.axis' j)).set]{fullShare}
        ((dst.view.slice (s.rowRect hg.axis' j)).write (Elt F) fd (w j) Finset.univ)) ∗ S.heldEntry qo fo j)
        ∗ (src.view.loc c ↦[src.view.set]{pieceOf q _ ho j} fs)) ⊢ grouped D (group i j) := fun j => by
    rw [show grouped D (group i j) = D i j from grouped_apply D i j, hrow j]
    exact hD j
  unfold Batch
  iintro ⟨Hs, Hd, Ho, ⟨%γ, %γ₀, %κ, #Hinv, HI, H0, Hcred⟩⟩ Hk
  ihave HI' := (Entails.of_eq (bigSep_pending_group (fun t => count EC (γ t) 0) i)) $$ HI
  icases HI' with ⟨Hγ, HI⟩
  ihave Hd' := (Entails.of_eq (pointsTo_rows c dst.view hg.axis' fullShare fd)) $$ Hd
  ihave Ho' := (Entails.of_eq (pointsTo_entries c offs.view (entryOf hn) (entryOf_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hres : ∀ j, iprop(inv κ (batchBody EC (c, SemLoc.dma sem) N (grouped D) γ γ₀)
          ∗ (((dst.view.loc c ↦[(dst.view.slice (s.rowRect hg.axis' j)).set]{fullShare} fd)
            ∗ (offs.view.loc c ↦[{offs.view.emb (entryOf hn j)}]{qo} fo))
            ∗ (src.view.loc c ↦[src.view.set]{pieceOf q _ ho j} fs)) ∗ count EC (γ (group i j)) 0)
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (SemLoc.dma sem) = N from hN j]
        iapply (batch_creditUpdate EC (g := (c, SemLoc.dma sem)) (D := grouped D) (γ₀ := γ₀) (ι := κ) (group i j) (hgot j))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hres j)
    isplitr; · iexact Hinv
    iexact H3
  iintro Hcred'
  iapply Hk
  iexists γ, γ₀, κ
  isplitr; · iexact Hinv
  isplitl [HI]; · iexact HI
  isplitl [H0]; · iexact H0
  rw [Nat.sub_zero, Nat.sub_zero, Nat.mul_add, Nat.mul_one, Nat.add_mul, ← tallyAt_add]
  icombine Hcred Hcred' as H
  iexact H

end Cert.Proof.Gather

end
-- ==== Proof.Gather.Body.lean ====
/-
  THE TASK AS FOUR LOOPS. The kernel's Python loops are unrolled in the printed program: one task is the fetch of its
  512 ids, sixteen indirect gathers, the sixteen waits for them, four pairs of copies out and the four pairs of waits
  for those. Here the same task is written over the number of the gather (or of the pair of copies), so that one lemma
  speaks of all the gathers, one of all the waits for them, and so on; `body_eq` says that the two programs are the same.

  Gather number `i` is of list row `i / 4`, column half `i / 2 % 2` (0: columns 0 to 15, 1: columns 16 to 31) and table
  `i % 2` (0: target, 1: context).
-/
module

public import proofs.«01_k».proof.Defs
public import Idealize.ShloMosaic.Lib.SparseCore.Ops
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic Idealize.SL.Sem

variable {F : FTy → Type}

/-! ## The buffers -/

/-- The ids as a square of 128 rows of 128, in HBM. -/
abbrev idsM : Memref sig .scVector .hbm S128x128 .i32 := Memref.whole main_v0_scv
/-- The two tables, in HBM. -/
abbrev tabM (t : Fin 2) : Memref sig .scVector .hbm S1000000x32 .f32 :=
  match t with | 0 => Memref.whole main_arg1_scv | 1 => Memref.whole main_arg2_scv
/-- The result, in HBM. -/
abbrev outM : Memref sig .scVector .hbm S16384x64 .f32 := Memref.whole main_v1_scv
/-- The task's own ids, four rows of 128. -/
abbrev listM : Memref sig .scVector .vmem S4x128 .i32 := Memref.whole cc0_scratch0
/-- The gathered rows of each table, one plane of 128 rows for each row of ids. -/
abbrev bufM (t : Fin 2) : Memref sig .scVector .vmem S4x128x32 .f32 :=
  match t with | 0 => Memref.whole cc0_scratch1 | 1 => Memref.whole cc0_scratch2
/-- The semaphore of all the gathers. -/
abbrev gSem : DmaSem sig := cc0_scratch3.sem
/-- The semaphore of each table's copies out. -/
abbrev wSem (t : Fin 2) : DmaSem sig := match t with | 0 => cc0_scratch4.sem | 1 => cc0_scratch5.sem
/-- The semaphore of the fetch of the ids. -/
abbrev fSem : DmaSem sig := cc0_scoped0.sem

/-! ## The windows -/

theorem half_inb (h : Fin 2) : ∀ a, (![0, 16 * h.val] : Fin 2 → Nat) a + S1000000x16.size a ≤ S1000000x32.size a := by
  revert h; decide
theorem dst_inb (j : Fin 4) (h : Fin 2) : ∀ a, (![j.val, 0, 16 * h.val] : Fin 3 → Nat) a + S1x128x16.size a ≤ S4x128x32.size a := by
  revert j h; decide
theorem row_inb (j : Fin 4) : ∀ a, (![j.val, 0] : Fin 2 → Nat) a + S1x128.size a ≤ S4x128.size a := by revert j; decide
theorem plane_inb (j : Fin 4) : ∀ a, (![j.val, 0, 0] : Fin 3 → Nat) a + S1x128x32.size a ≤ S4x128x32.size a := by revert j; decide

/-- Column half `h` of a table. -/
abbrev halfR (h : Fin 2) : Rect S1000000x32 := Rect.unit (s := S1000000x32) ![0, 16 * h.val] S1000000x16.size (half_inb h)
/-- Column half `h` of plane `j` of a buffer of gathered rows. -/
abbrev dstR (j : Fin 4) (h : Fin 2) : Rect S4x128x32 := Rect.unit (s := S4x128x32) ![j.val, 0, 16 * h.val] S1x128x16.size (dst_inb j h)
/-- Row `j` of the task's ids. -/
abbrev rowR (j : Fin 4) : Rect S4x128 := Rect.unit (s := S4x128) ![j.val, 0] S1x128.size (row_inb j)
/-- Plane `j` of a buffer of gathered rows. -/
abbrev planeR (j : Fin 4) : Rect S4x128x32 := Rect.unit (s := S4x128x32) ![j.val, 0, 0] S1x128x32.size (plane_inb j)
/-- The task's four rows of the ids. -/
abbrev fetchR (L : grid0.Coords) : Rect S128x128 := Rect.unit (s := S128x128) (k0_off1 L) S4x128.size (k0_off1_inb L)
/-- The rows of the result for the task's row `j` of ids, in the columns of table `t`. -/
abbrev outR (L : grid0.Coords) (t : Fin 2) (j : Fin 4) : Rect S16384x64 :=
  match t with
  | 0 => Rect.unit (s := S16384x64) (k0_off2 L (BitVec.ofNat 32 j.val)) S128x32.size (k0_off2_inb L j)
  | 1 => Rect.unit (s := S16384x64) (k0_off3 L (BitVec.ofNat 32 j.val)) S128x32.size (k0_off3_inb L j)

theorem outR_stride (L : grid0.Coords) (t : Fin 2) (j : Fin 4) : ∀ a, (outR L t j).stride a = 1 :=
  match t with | 0 => fun _ => rfl | 1 => fun _ => rfl
theorem outR_size (L : grid0.Coords) (t : Fin 2) (j : Fin 4) : (outR L t j).shape = S128x32 :=
  match t with | 0 => rfl | 1 => rfl

abbrev srcW (t h : Fin 2) : Memref sig .scVector .hbm S1000000x16 .f32 := (tabM t).slice (halfR h) (fun _ => rfl)
abbrev dstW (t : Fin 2) (j : Fin 4) (h : Fin 2) : Memref sig .scVector .vmem S128x16 .f32 :=
  ((bufM t).slice (dstR j h) (fun _ => rfl)).squeeze S128x16 squeezes_S1x128x16_S128x16
abbrev rowW (j : Fin 4) : Memref sig .scVector .vmem S128 .i32 := (listM.slice (rowR j) (fun _ => rfl)).squeeze S128 squeezes_S1x128_S128
abbrev planeW (t : Fin 2) (j : Fin 4) : Memref sig .scVector .vmem S128x32 .f32 :=
  ((bufM t).slice (planeR j) (fun _ => rfl)).squeeze S128x32 squeezes_S1x128x32_S128x32
abbrev fetchW (L : grid0.Coords) : Memref sig .scVector .hbm S4x128 .i32 := idsM.slice (fetchR L) (fun _ => rfl)
abbrev outW (L : grid0.Coords) (t : Fin 2) (j : Fin 4) : Memref sig .scVector .hbm S128x32 .f32 :=
  match t with
  | 0 => outM.slice (outR L 0 j) (fun _ => rfl)
  | 1 => outM.slice (outR L 1 j) (fun _ => rfl)

/-! ## The operations -/

/-- The vector subcore at grid coordinates `L`. -/
abbrev procV (L : grid0.Coords) : Proc τ := .scVector ((L 0).castLE hcore0) ((L 1).castLE hsub0)
/-- Programs of the task. -/
abbrev TaskProg (F : FTy → Type) (L : grid0.Coords) : Type 1 := Prog (TpuEff nD τ sig (Elt F) Λ₀ (procV L)) PUnit

section Ops

variable (L : grid0.Coords)

/-- Row, column half and table of gather `i`. -/
abbrev rowN (i : ℕ) : Fin 4 := ⟨i / 4 % 4, Nat.mod_lt _ (by decide)⟩
abbrev halfN (i : ℕ) : Fin 2 := ⟨i / 2 % 2, Nat.mod_lt _ (by decide)⟩
abbrev tabN (i : ℕ) : Fin 2 := ⟨i % 2, Nat.mod_lt _ (by decide)⟩

/-- Start a gather, then go on with `k`. -/
def gatherOp (t : Fin 2) (j : Fin 4) (h : Fin 2) (k : TaskProg F L) : TaskProg F L :=
  SparseCore.enqueueIndirectGather (F := F) (p := procV L) rfl (srcW t h) (dstW t j h) gathers_S1000000x16_S128x16 (rowW j) rfl gSem
    (View.wordExact_bits rfl) rfl (Or.inl rfl) >>= fun _ => k

/-- Wait for a gather, then go on with `k`. -/
def gatherWait (t : Fin 2) (j : Fin 4) (h : Fin 2) (k : TaskProg F L) : TaskProg F L :=
  .op (.waitDma2 gSem (srcW t h) (dstW t j h) (View.wordExact_bits rfl) ((View.wordExact_bits rfl).reshape _ _)) fun _ => k

/-- Copy a plane of gathered rows out, then go on with `k`. -/
def copyOp (t : Fin 2) (j : Fin 4) (k : TaskProg F L) : TaskProg F L :=
  .op (.enqueueDma (planeW t j) (.here (outW L t j)) (.dma (wSem t)) ((View.wordExact_bits rfl).reshape _ _) (View.wordExact_bits rfl) ⟨Or.inl rfl, trivial⟩) fun _ => k

/-- Wait for a copy out, then go on with `k`. -/
def copyWait (t : Fin 2) (j : Fin 4) (k : TaskProg F L) : TaskProg F L :=
  .op (.waitDma2 (wSem t) (planeW t j) (outW L t j) ((View.wordExact_bits rfl).reshape _ _) (View.wordExact_bits rfl)) fun _ => k

/-- Fetch the task's ids, then go on with `k`. -/
def fetchOp (k : TaskProg F L) : TaskProg F L :=
  .op (.enqueueDma (fetchW L) (.here listM) (.dma fSem) (View.wordExact_bits rfl) (Memref.isWhole_whole cc0_scratch0).wordExact ⟨Or.inl rfl, trivial⟩) fun _ => k

/-- Wait for the ids, then go on with `k`. -/
def fetchWait (k : TaskProg F L) : TaskProg F L :=
  .op (.waitDma2 fSem (fetchW L) listM (View.wordExact_bits rfl) (Memref.isWhole_whole cc0_scratch0).wordExact) fun _ => k

end Ops

/-! ## The task -/

/-- The operations numbered `i`, …, `i + n - 1`, one after another, and then `k`. -/
def steps {P : Type 1} (op : ℕ → P → P) : (n i : ℕ) → P → P
  | 0, _, k => k
  | n + 1, i, k => op i (steps op n (i + 1) k)

/-- Gather number `i`, its wait, the pair `j` of copies out, their waits. -/
abbrev gatherN (L : grid0.Coords) (i : ℕ) : TaskProg F L → TaskProg F L := gatherOp L (tabN i) (rowN i) (halfN i)
abbrev gatherWaitN (L : grid0.Coords) (i : ℕ) : TaskProg F L → TaskProg F L := gatherWait L (tabN i) (rowN i) (halfN i)
abbrev copyN (L : grid0.Coords) (i : ℕ) (k : TaskProg F L) : TaskProg F L := copyOp L 0 (rowN (4 * i)) (copyOp L 1 (rowN (4 * i)) k)
abbrev copyWaitN (L : grid0.Coords) (i : ℕ) (k : TaskProg F L) : TaskProg F L := copyWait L 0 (rowN (4 * i)) (copyWait L 1 (rowN (4 * i)) k)

/-- The task, by loops. -/
def body (L : grid0.Coords) : TaskProg F L :=
  fetchOp L <| fetchWait L <| steps (gatherN L) 16 0 <| steps (gatherWaitN L) 16 0 <| steps (copyN L) 4 0 <| steps (copyWaitN L) 4 0 <| pure ⟨⟩

set_option maxRecDepth 65536 in
/-- The printed task is the task by loops. -/
theorem body_eq [FloatOps F] (L : grid0.Coords) :
    cc0__k (F := F) L idsM (Memref.isWhole_whole _) (tabM 0) (Memref.isWhole_whole _) (tabM 1) (Memref.isWhole_whole _) outM (Memref.isWhole_whole _)
      listM (Memref.isWhole_whole _) (bufM 0) (Memref.isWhole_whole _) (bufM 1) (Memref.isWhole_whole _)
      cc0_scratch3 cc0_scratch4 cc0_scratch5 cc0_scoped0 = body L := rfl

end Cert.Proof.Gather
-- ==== Proof.Gather.Values.lean ====
/-
  WHAT THE BUFFERS HOLD. The result as a function of the three arrays: row `r` of the result is row `ids[r]` of the
  target table and then row `ids[r]` of the context table. The buffers of gathered rows likewise, for the task's own
  ids; and the theorem that a landed gather leaves exactly that in its window.
-/
module

public import proofs.«01_k».proof.Proof.Gather.Batch
public import proofs.«01_k».proof.Proof.Gather.Body
public import Idealize.ShloMosaic.Lib.ValueIdxCore
public import Idealize.ShloMosaic.Lib.ValueLayout

@[expose] public section

noncomputable section

namespace Cert.Proof.Gather

open Cert.KernelIdeal Cert.KernelIdeal.Gen
open Idealize.ShloMosaic Idealize.SL.Sem
open Idealize.ShloMosaic.ValueIdx
open Idealize.ShloMosaic.SparseCore (rows gatherPayload)

variable {F : FTy → Type} {α : Type}

/-- The row of a table that a word names. (The remainder makes the definition total; the ids are below 1000000.) -/
def rowNo (w : BitVec 32) : Fin 1000000 := ⟨w.toNat % 1000000, Nat.mod_lt _ (by decide)⟩

theorem rowNo_val {w : BitVec 32} (h : w.toNat < 1000000) : (rowNo w).val = w.toNat := Nat.mod_eq_of_lt h

/-- A buffer of gathered rows: the rows of `tab` that the four rows of `ids` name. -/
def bufVal (ids : S4x128.Idx → BitVec 32) (tab : S1000000x32.Idx → α) : S4x128x32.Idx → α :=
  fun x => tab (ix2 (rowNo (ids (ix2 (x 0) (x 1)))) (x 2))

/-- Column `c` of the row that `w` names in the two tables set side by side. -/
def sideBySide (tab : Fin 2 → S1000000x32.Idx → α) (w : BitVec 32) (c : Fin 64) : α :=
  if h : c.val < 32 then tab 0 (ix2 (rowNo w) ⟨c.val, h⟩) else tab 1 (ix2 (rowNo w) ⟨c.val - 32, by omega⟩)

/-- The result: row `r` is row `ids[r]` of the two tables, side by side; the ids are a square of 128 rows of 128. -/
def outVal (ids : S128x128.Idx → BitVec 32) (tab : Fin 2 → S1000000x32.Idx → α) : S16384x64.Idx → α :=
  fun x => sideBySide tab
    (ids (ix2 ⟨(x 0).val / 128, Nat.div_lt_of_lt_mul (show (x 0).val < 128 * 128 from (x 0).isLt)⟩ ⟨(x 0).val % 128, Nat.mod_lt _ (by decide)⟩)) (x 1)

/-- Entry `k` of a list of rank one is its index `k`. -/
theorem entry_one (k : Fin 128) (h : S128.numel = 128) : S128.rowMajor.symm (k.cast h.symm) = ix1 k := by
  rw [Equiv.symm_apply_eq]
  exact Fin.ext (Shape.rowMajor_val_one (ix1 k)).symm

theorem reshape_row {n : ℕ} (h : (⟨1, ![n]⟩ : Shape).numel = (⟨2, ![1, n]⟩ : Shape).numel) (k : Fin n) :
    Shape.reshapeEquiv h (ix1 k) = ix2 (⟨0, Nat.one_pos⟩ : Fin 1) k :=
  Shape.reshapeEquiv_eq_of_rowMajor h (by
    rw [Shape.rowMajor_val_two, Shape.rowMajor_val_one]
    show 0 * n + k.val = k.val
    omega)

section Lands

variable (t : Fin 2) (j : Fin 4) (h : Fin 2)
variable (fs : (tabM t).view.ty.Contents (Elt F)) (gd : (bufM t).view.ty.Contents (Elt F)) (fo : listM.view.ty.Contents (Elt F))

/-- Column half `h` of a table, read. -/
theorem read_srcW (z : S1000000x16.Idx) :
    (srcW t h).view.read (Elt F) fs z = (tabM t).view.read (Elt F) fs (ix2 (z 0) ⟨16 * h.val + (z 1).val, by
      have := h.isLt; have : (z 1).val < 16 := (z 1).isLt; omega⟩) := by
  refine congrArg ((tabM t).view.read (Elt F) fs) (?_ : (halfR h).emb z = _)
  funext a
  match a with
  | 0 => exact Fin.ext (show 0 + 1 * (z 0).val = (z 0).val by omega)
  | 1 => exact Fin.ext (show 16 * h.val + 1 * (z 1).val = 16 * h.val + (z 1).val by omega)

/-- Column half `h` of plane `j` of a buffer of gathered rows, read. -/
theorem read_dstW (x : S128x16.Idx) :
    (dstW t j h).view.read (Elt F) gd x = (bufM t).view.read (Elt F) gd (ix3 j (x 0) ⟨16 * h.val + (x 1).val, by
      have := h.isLt; have : (x 1).val < 16 := (x 1).isLt; omega⟩) := by
  refine congrArg ((bufM t).view.read (Elt F) gd) (?_ : (dstR j h).emb (Shape.reshapeEquiv squeezes_S1x128x16_S128x16.numel_eq x) = _)
  refine (congrArg (dstR j h).emb ((congrArg _ (eq_ix2 (n0 := 128) (n1 := 16) x)).trans
    (reshapeEquiv_ix2_1ab (a := 128) (b := 16) squeezes_S1x128x16_S128x16.numel_eq (x 0) (x 1)))).trans ?_
  funext a
  match a with
  | 0 => exact Fin.ext (show j.val + 1 * 0 = j.val by omega)
  | 1 => exact Fin.ext (show 0 + 1 * (x 0).val = (x 0).val by omega)
  | 2 => exact Fin.ext (show 16 * h.val + 1 * (x 1).val = 16 * h.val + (x 1).val by omega)

/-- Plane `j` of a buffer of gathered rows, read. -/
theorem read_planeW (x : S128x32.Idx) :
    (planeW t j).view.read (Elt F) gd x = (bufM t).view.read (Elt F) gd (ix3 j (x 0) (x 1)) := by
  refine congrArg ((bufM t).view.read (Elt F) gd) (?_ : (planeR j).emb (Shape.reshapeEquiv squeezes_S1x128x32_S128x32.numel_eq x) = _)
  refine (congrArg (planeR j).emb ((congrArg _ (eq_ix2 (n0 := 128) (n1 := 32) x)).trans
    (reshapeEquiv_ix2_1ab (a := 128) (b := 32) squeezes_S1x128x32_S128x32.numel_eq (x 0) (x 1)))).trans ?_
  funext a
  match a with
  | 0 => exact Fin.ext (show j.val + 1 * 0 = j.val by omega)
  | 1 => exact Fin.ext (show 0 + 1 * (x 0).val = (x 0).val by omega)
  | 2 => exact Fin.ext (show 0 + 1 * (x 1).val = (x 1).val by omega)

/-- Row `j` of the task's ids, read. -/
theorem read_rowW (x : S128.Idx) : (rowW j).view.read (Elt F) fo x = listM.view.read (Elt F) fo (ix2 j (x 0)) := by
  refine congrArg (listM.view.read (Elt F) fo) (?_ : (rowR j).emb (Shape.reshapeEquiv squeezes_S1x128_S128.numel_eq x) = _)
  refine (congrArg (rowR j).emb ((congrArg _ (eq_ix1 (n := 128) x)).trans (reshape_row (n := 128) squeezes_S1x128_S128.numel_eq (x 0)))).trans ?_
  funext a
  match a with
  | 0 => exact Fin.ext (show j.val + 1 * 0 = j.val by omega)
  | 1 => exact Fin.ext (show 0 + 1 * (x 0).val = (x 0).val by omega)

/-- If a buffer holds the rows that the ids name, then each window of it holds what the gather into that window
    delivers: in row `k` the row of the table's column half that entry `k` of the list names. -/
theorem gather_lands (hn : S128.numel = S128x16.size gathers_S1000000x16_S128x16.axis')
    (hin : ∀ x, ((rowW j).view.read (Elt F) fo x).toNat < S1000000x16.size gathers_S1000000x16_S128x16.axis)
    (hgd : ∀ y, (bufM t).view.read (Elt F) gd y = bufVal (listM.view.read (Elt F) fo) ((tabM t).view.read (Elt F) fs) y) (x : S128x16.Idx) :
    (dstW t j h).view.read (Elt F) gd x
      = gatherPayload gathers_S1000000x16_S128x16 ((srcW t h).view.read (Elt F) fs) (rows ((rowW j).view.read (Elt F) fo) hn hin) x := by
  rw [read_dstW, hgd]
  unfold gatherPayload bufVal
  rw [read_srcW]
  have hrow := hin (ix1 (x 0))
  rw [read_rowW] at hrow
  refine congrArg ((tabM t).view.read (Elt F) fs) (funext fun a => ?_)
  match a with
  | 0 =>
    refine Fin.ext ?_
    refine (rowNo_val (w := listM.view.read (Elt F) fo (ix2 j (x 0))) hrow).trans ?_
    refine Eq.trans ?_ (congrArg (fun k => ((rowW j).view.read (Elt F) fo k).toNat) (entry_one (x 0) hn)).symm
    rw [read_rowW]
  | 1 => exact Fin.ext rfl

end Lands

section Out

variable (L : grid0.Coords) (t : Fin 2) (j : Fin 4)

/-- Row `b` of the task's row `j` of ids, in the whole list of ids and in the result. -/
theorem idRow_lt : 8 * (L 1).val + 4 * (L 0).val + j.val < 128 := by
  have := (L 1).isLt; have := (L 0).isLt
  have h1 : (L 1).val < 16 := (L 1).isLt
  have h0 : (L 0).val < 2 := (L 0).isLt
  omega
abbrev idRow : Fin 128 := ⟨8 * (L 1).val + 4 * (L 0).val + j.val, idRow_lt L j⟩
theorem outRow_lt (b : Fin 128) : 128 * (idRow L j).val + b.val < 16384 := by
  have := (idRow L j).isLt; omega
abbrev outRow (b : Fin 128) : Fin 16384 := ⟨128 * (idRow L j).val + b.val, outRow_lt L j b⟩
abbrev outCol (b : Fin 32) : Fin 64 := ⟨32 * t.val + b.val, by omega⟩

/-- The window of the result for row `j` of ids and table `t`, placed. -/
theorem outW_emb (x : S128x32.Idx) :
    (match t with
      | 0 => (outR L 0 j).emb x
      | 1 => (outR L 1 j).emb x : S16384x64.Idx) = ix2 (outRow L j (x 0)) (outCol t (x 1)) := by
  match t with
  | 0 =>
    funext a
    have e := congrFun (k0_off2_eq L j) a
    match a with
    | 0 =>
      refine Fin.ext (show k0_off2 L (BitVec.ofNat 32 j.val) 0 + 1 * (x 0).val = 128 * (8 * (L 1).val + 4 * (L 0).val + j.val) + (x 0).val from ?_)
      rw [show k0_off2 L (BitVec.ofNat 32 j.val) 0 = 1024 * (L 1).val + 512 * (L 0).val + 128 * j.val from e]; omega
    | 1 =>
      refine Fin.ext (show k0_off2 L (BitVec.ofNat 32 j.val) 1 + 1 * (x 1).val = 32 * 0 + (x 1).val from ?_)
      rw [show k0_off2 L (BitVec.ofNat 32 j.val) 1 = 0 from e]; omega
  | 1 =>
    funext a
    have e := congrFun (k0_off3_eq L j) a
    match a with
    | 0 =>
      refine Fin.ext (show k0_off3 L (BitVec.ofNat 32 j.val) 0 + 1 * (x 0).val = 128 * (8 * (L 1).val + 4 * (L 0).val + j.val) + (x 0).val from ?_)
      rw [show k0_off3 L (BitVec.ofNat 32 j.val) 0 = 1024 * (L 1).val + 512 * (L 0).val + 128 * j.val from e]; omega
    | 1 =>
      refine Fin.ext (show k0_off3 L (BitVec.ofNat 32 j.val) 1 + 1 * (x 1).val = 32 * 1 + (x 1).val from ?_)
      rw [show k0_off3 L (BitVec.ofNat 32 j.val) 1 = 32 from e]; omega

theorem read_outW (g : outM.view.ty.Contents (Elt F)) (x : S128x32.Idx) :
    (match t with
      | 0 => (outM.slice (outR L 0 j) (fun _ => rfl)).view.read (Elt F) g x
      | 1 => (outM.slice (outR L 1 j) (fun _ => rfl)).view.read (Elt F) g x : F .f32)
      = outM.view.read (Elt F) g (ix2 (outRow L j (x 0)) (outCol t (x 1))) := by
  match t with
  | 0 => exact congrArg (outM.view.read (Elt F) g) (outW_emb L 0 j x)
  | 1 => exact congrArg (outM.view.read (Elt F) g) (outW_emb L 1 j x)

/-- The task's ids are its four rows of the whole list. -/
theorem read_fetchW (fi : idsM.view.ty.Contents (Elt F)) (x : S4x128.Idx) :
    (fetchW L).view.read (Elt F) fi x = idsM.view.read (Elt F) fi (ix2 (idRow L (x 0)) (x 1)) := by
  refine congrArg (idsM.view.read (Elt F) fi) (?_ : (fetchR L).emb x = _)
  funext a
  have e := congrFun (k0_off1_eq L) a
  match a with
  | 0 =>
    refine Fin.ext (show k0_off1 L 0 + 1 * (x 0).val = 8 * (L 1).val + 4 * (L 0).val + (x 0).val from ?_)
    rw [show k0_off1 L 0 = 8 * (L 1).val + 4 * (L 0).val from e]; omega
  | 1 =>
    refine Fin.ext (show k0_off1 L 1 + 1 * (x 1).val = (x 1).val from ?_)
    rw [show k0_off1 L 1 = 0 from e]; omega

/-- The result's windows hold what the planes of gathered rows hold. -/
theorem outVal_window (ids : S128x128.Idx → BitVec 32) (tab : Fin 2 → S1000000x32.Idx → α) (x : S128x32.Idx) :
    outVal ids tab (ix2 (outRow L j (x 0)) (outCol t (x 1)))
      = bufVal (fun y => ids (ix2 (idRow L (y 0)) (y 1))) (tab t) (ix3 j (x 0) (x 1)) := by
  have hx : (x 0).val < 128 := (x 0).isLt
  have hx1 : (x 1).val < 32 := (x 1).isLt
  unfold outVal bufVal
  have hid : (ix2 ⟨(outRow L j (x 0)).val / 128, Nat.div_lt_of_lt_mul (show (outRow L j (x 0)).val < 128 * 128 from (outRow L j (x 0)).isLt)⟩
      ⟨(outRow L j (x 0)).val % 128, Nat.mod_lt _ (by decide)⟩ : S128x128.Idx) = ix2 (idRow L j) (x 0) := by
    funext a
    match a with
    | 0 => exact Fin.ext (show (128 * (idRow L j).val + (x 0).val) / 128 = (idRow L j).val by omega)
    | 1 => exact Fin.ext (show (128 * (idRow L j).val + (x 0).val) % 128 = (x 0).val by omega)
  refine (congrArg (fun w => sideBySide tab (ids w) (outCol t (x 1))) hid).trans ?_
  unfold sideBySide
  match t with
  | 0 =>
    rw [dif_pos (show 32 * (0 : Fin 2).val + (x 1).val < 32 by simpa using hx1)]
    refine congrArg (tab 0) ?_
    funext a
    match a with
    | 0 => rfl
    | 1 => exact Fin.ext (show 32 * 0 + (x 1).val = (x 1).val by omega)
  | 1 =>
    rw [dif_neg (show ¬ 32 * (1 : Fin 2).val + (x 1).val < 32 by simp)]
    refine congrArg (tab 1) ?_
    funext a
    match a with
    | 0 => rfl
    | 1 => exact Fin.ext (show 32 * 1 + (x 1).val - 32 = (x 1).val by omega)

end Out

end Cert.Proof.Gather
-- ==== Proof.Gather.Windows.lean ====
/-
  THE WINDOWS OF THE ARRAYS. Every array that a task works on is the union of the disjoint windows through which the task
  moves it. So owning the array is owning its windows, at the same contents and share. First for any array and any
  family of boxes that cut it up, then for the arrays of this kernel; last, what the sixteen gathers of a task own
  between them, joined.
-/
module

public import proofs.«01_k».proof.Proof.Gather.Values
public import Idealize.ShloMosaic.Lib.SparseCore.Quiescent
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

abbrev UH : Type := URounds (GSem nD τ sig) ℕ
abbrev UU : Type := UH × Counters

local notation "𝕄" => MT nD τ sig (HIx 1) (Elt F) ℕ UU ℕ

/-- The elements of a view whose shape is cut up by boxes are those of the boxes' windows: ownership too. -/
theorem pts_windows {sp : Space} {s : Shape} {e : EltTy} {ι : Type} [Fintype ι] (c : Thread nD τ) (v : View sig c.2.kind sp s e)
    (R : ι → Rect s) (φ : s.Idx → ι) (h : ∀ i y, y ∈ (R i).set ↔ φ y = i) (q : PosShare TreeShare) (f : Buf (Elt F) (v.loc c)) :
    (v.loc c ↦[v.set]{q} f : sProp 𝕄) = bigSep Finset.univ fun i => v.loc c ↦[(v.slice (R i)).set]{q} f := by
  classical
  have hu : v.set = Finset.univ.biUnion fun i => (v.slice (R i)).set := by
    ext y
    rw [Finset.mem_biUnion]
    constructor
    · intro hy
      obtain ⟨x, -, rfl⟩ := Finset.mem_map.mp hy
      refine ⟨φ x, Finset.mem_univ _, ?_⟩
      rw [View.set_slice]; exact Finset.mem_map_of_mem _ ((h _ _).mpr rfl)
    · rintro ⟨i, -, hy⟩
      rw [View.set_slice] at hy
      obtain ⟨x, -, rfl⟩ := Finset.mem_map.mp hy
      exact Finset.mem_map_of_mem _ (Finset.mem_univ x)
  rw [hu, pointsTo_biUnion]
  intro i _ j _ hij
  rw [View.set_slice, View.set_slice, Finset.disjoint_map, Finset.disjoint_left]
  exact fun y hi hj => hij (((h i y).mp hi).symm.trans ((h j y).mp hj))

/-! ## The boxes that cut up the arrays of this kernel -/

theorem mem_halfR (h : Fin 2) (y : S1000000x32.Idx) :
    y ∈ (halfR h).set ↔ (⟨(y 1).val / 16, Nat.div_lt_of_lt_mul (show (y 1).val < 16 * 2 from (y 1).isLt)⟩ : Fin 2) = h := by
  rw [Rect.mem_set_unit, Fin.forall_fin_two, Fin.ext_iff]
  have h0 : (y 0).val < 1000000 := (y 0).isLt
  show (0 ≤ (y 0).val ∧ (y 0).val < 0 + 1000000) ∧ (16 * h.val ≤ (y 1).val ∧ (y 1).val < 16 * h.val + 16) ↔ (y 1).val / 16 = h.val
  omega

theorem mem_rowR (j : Fin 4) (y : S4x128.Idx) : y ∈ (rowR j).set ↔ (⟨(y 0).val, (y 0).isLt⟩ : Fin 4) = j := by
  rw [Rect.mem_set_unit, Fin.forall_fin_two, Fin.ext_iff]
  have h1 : (y 1).val < 128 := (y 1).isLt
  show (j.val ≤ (y 0).val ∧ (y 0).val < j.val + 1) ∧ (0 ≤ (y 1).val ∧ (y 1).val < 0 + 128) ↔ (y 0).val = j.val
  omega

theorem mem_planeR (j : Fin 4) (y : S4x128x32.Idx) : y ∈ (planeR j).set ↔ (⟨(y 0).val, (y 0).isLt⟩ : Fin 4) = j := by
  rw [Rect.mem_set_unit, Fin.forall_fin_succ, Fin.forall_fin_two, Fin.ext_iff]
  have h1 : (y 1).val < 128 := (y 1).isLt
  have h2 : (y 2).val < 32 := (y 2).isLt
  show (j.val ≤ (y 0).val ∧ (y 0).val < j.val + 1) ∧ (0 ≤ (y 1).val ∧ (y 1).val < 0 + 128) ∧ (0 ≤ (y 2).val ∧ (y 2).val < 0 + 32)
    ↔ (y 0).val = j.val
  omega

theorem mem_dstR (i : Fin 4 × Fin 2) (y : S4x128x32.Idx) :
    y ∈ (dstR i.1 i.2).set
      ↔ ((⟨(y 0).val, (y 0).isLt⟩ : Fin 4), (⟨(y 2).val / 16, Nat.div_lt_of_lt_mul (show (y 2).val < 16 * 2 from (y 2).isLt)⟩ : Fin 2)) = i := by
  rw [Rect.mem_set_unit, Fin.forall_fin_succ, Fin.forall_fin_two, Prod.ext_iff, Fin.ext_iff, Fin.ext_iff]
  have h1 : (y 1).val < 128 := (y 1).isLt
  show (i.1.val ≤ (y 0).val ∧ (y 0).val < i.1.val + 1) ∧ (0 ≤ (y 1).val ∧ (y 1).val < 0 + 128)
      ∧ (16 * i.2.val ≤ (y 2).val ∧ (y 2).val < 16 * i.2.val + 16)
    ↔ (y 0).val = i.1.val ∧ (y 2).val / 16 = i.2.val
  omega

/-- The grid coordinates of a task. -/
def coordsV (c : Fin (grid0.bound 0)) (s : Fin (grid0.bound 1)) : grid0.Coords :=
  fun | 0 => c | 1 => s | ⟨_ + 2, h⟩ => absurd h (Nat.not_lt.2 (Nat.le_add_left _ _))

theorem mem_fetchR (i : Fin 2 × Fin 16) (y : S128x128.Idx) :
    y ∈ (fetchR (coordsV i.1 i.2)).set
      ↔ ((⟨(y 0).val / 4 % 2, Nat.mod_lt _ (by decide)⟩ : Fin 2),
          (⟨(y 0).val / 8, Nat.div_lt_of_lt_mul (show (y 0).val < 8 * 16 from (y 0).isLt)⟩ : Fin 16)) = i := by
  rw [Rect.mem_set_unit, k0_off1_eq, Fin.forall_fin_two, Prod.ext_iff, Fin.ext_iff, Fin.ext_iff]
  have h1 : (y 1).val < 128 := (y 1).isLt
  have hi : i.1.val < 2 := i.1.isLt
  show (8 * i.2.val + 4 * i.1.val ≤ (y 0).val ∧ (y 0).val < 8 * i.2.val + 4 * i.1.val + 4) ∧ (0 ≤ (y 1).val ∧ (y 1).val < 0 + 128)
    ↔ (y 0).val / 4 % 2 = i.1.val ∧ (y 0).val / 8 = i.2.val
  omega

theorem mem_outR (i : (Fin 2 × Fin 16) × Fin 2 × Fin 4) (y : S16384x64.Idx) :
    y ∈ (outR (coordsV i.1.1 i.1.2) i.2.1 i.2.2).set
      ↔ (((⟨(y 0).val / 512 % 2, Nat.mod_lt _ (by decide)⟩ : Fin 2),
          (⟨(y 0).val / 1024, Nat.div_lt_of_lt_mul (show (y 0).val < 1024 * 16 from (y 0).isLt)⟩ : Fin 16)),
        (⟨(y 1).val / 32, Nat.div_lt_of_lt_mul (show (y 1).val < 32 * 2 from (y 1).isLt)⟩ : Fin 2),
        (⟨(y 0).val / 128 % 4, Nat.mod_lt _ (by decide)⟩ : Fin 4)) = i := by
  obtain ⟨⟨c, s⟩, t, j⟩ := i
  have hc : c.val < 2 := c.isLt
  have hj : j.val < 4 := j.isLt
  rw [Prod.ext_iff, Prod.ext_iff, Prod.ext_iff, Fin.ext_iff, Fin.ext_iff, Fin.ext_iff, Fin.ext_iff]
  match t with
  | 0 =>
    show y ∈ (Rect.unit (s := S16384x64) (k0_off2 (coordsV c s) (BitVec.ofNat 32 j.val)) S128x32.size (k0_off2_inb (coordsV c s) j)).set ↔ _
    rw [Rect.mem_set_unit, k0_off2_eq, Fin.forall_fin_two]
    show (1024 * s.val + 512 * c.val + 128 * j.val ≤ (y 0).val ∧ (y 0).val < 1024 * s.val + 512 * c.val + 128 * j.val + 128)
        ∧ (0 ≤ (y 1).val ∧ (y 1).val < 0 + 32)
      ↔ ((y 0).val / 512 % 2 = c.val ∧ (y 0).val / 1024 = s.val) ∧ (y 1).val / 32 = 0 ∧ (y 0).val / 128 % 4 = j.val
    omega
  | 1 =>
    have h1 : (y 1).val < 64 := (y 1).isLt
    show y ∈ (Rect.unit (s := S16384x64) (k0_off3 (coordsV c s) (BitVec.ofNat 32 j.val)) S128x32.size (k0_off3_inb (coordsV c s) j)).set ↔ _
    rw [Rect.mem_set_unit, k0_off3_eq, Fin.forall_fin_two]
    show (1024 * s.val + 512 * c.val + 128 * j.val ≤ (y 0).val ∧ (y 0).val < 1024 * s.val + 512 * c.val + 128 * j.val + 128)
        ∧ (32 ≤ (y 1).val ∧ (y 1).val < 32 + 32)
      ↔ ((y 0).val / 512 % 2 = c.val ∧ (y 0).val / 1024 = s.val) ∧ (y 1).val / 32 = 1 ∧ (y 0).val / 128 % 4 = j.val
    omega

/-! ## What the sixteen gathers of a task hold -/

theorem set_tabM (t : Fin 2) : (tabM t).view.set = Finset.univ := match t with | 0 => View.set_whole _ | 1 => View.set_whole _
theorem set_bufM (t : Fin 2) : (bufM t).view.set = Finset.univ := match t with | 0 => View.set_whole _ | 1 => View.set_whole _
theorem set_listM : listM.view.set = Finset.univ := View.set_whole _

/-- The vector subcore at grid coordinates `L` of device `d`. -/
abbrev thrV (d : Dev nD) (L : grid0.Coords) : Thread nD τ := (d, procV L)

section Held

variable (d : Dev nD) (L : grid0.Coords) (q : PosShare TreeShare)
variable (ft : (t : Fin 2) → Buf (Elt F) ((tabM t).view.loc (thrV d L)))
variable (fb : (t : Fin 2) → Buf (Elt F) ((bufM t).view.loc (thrV d L)))
variable (fo : Buf (Elt F) (listM.view.loc (thrV d L)))

/-- The share of a table that the gathers of list row `j` read it at, and the share of a list row of one of the gathers
    of that row. -/
abbrev qTab (j : Fin 4) : PosShare TreeShare := pieceOf q 4 (by decide) j
abbrev qRow (t h : Fin 2) : PosShare TreeShare := pieceOf (pieceOf fullShare 2 (by decide) t) 2 (by decide) h

/-- What one gather holds: its window of the buffer, a share of its row of the list, a share of its half of the table. -/
def held (t : Fin 2) (j : Fin 4) (h : Fin 2) : sProp 𝕄 :=
  iprop(((dstW t j h).view.loc (thrV d L) ↦[(dstW t j h).view.set]{fullShare} fb t)
    ∗ ((rowW j).view.loc (thrV d L) ↦[(rowW j).view.set]{qRow t h} fo)
    ∗ ((srcW t h).view.loc (thrV d L) ↦[(srcW t h).view.set]{qTab q j} ft t))

/-- A buffer of gathered rows, by the windows of the gathers. -/
theorem buf_dst (t : Fin 2) (f : Buf (Elt F) ((bufM t).view.loc (thrV d L))) :
    ((bufM t).view.loc (thrV d L) ↦{fullShare} f : sProp 𝕄)
      = bigSep Finset.univ fun j => bigSep Finset.univ fun h => (dstW t j h).view.loc (thrV d L) ↦[(dstW t j h).view.set]{fullShare} f := by
  rw [← set_bufM t]
  refine (pts_windows (thrV d L) (bufM t).view (fun i : Fin 4 × Fin 2 => dstR i.1 i.2) _ mem_dstR fullShare f).trans ?_
  rw [bigSep_univ_prod]
  exact bigSep_congr fun j _ => bigSep_congr fun h _ => congrArg (fun I => ((bufM t).view.loc (thrV d L) ↦[I]{fullShare} f : sProp 𝕄)) (View.set_reshape _ _).symm

/-- A buffer of gathered rows, by planes. -/
theorem buf_plane (t : Fin 2) (f : Buf (Elt F) ((bufM t).view.loc (thrV d L))) :
    ((bufM t).view.loc (thrV d L) ↦{fullShare} f : sProp 𝕄)
      = bigSep Finset.univ fun j => (planeW t j).view.loc (thrV d L) ↦[(planeW t j).view.set]{fullShare} f := by
  rw [← set_bufM t]
  refine (pts_windows (thrV d L) (bufM t).view planeR _ mem_planeR fullShare f).trans ?_
  exact bigSep_congr fun j _ => congrArg (fun I => ((bufM t).view.loc (thrV d L) ↦[I]{fullShare} f : sProp 𝕄)) (View.set_reshape _ _).symm

/-- The list of ids, by the shares of its rows that the gathers hold. -/
theorem list_rows :
    (listM.view.loc (thrV d L) ↦{fullShare} fo : sProp 𝕄)
      = bigSep Finset.univ fun j => bigSep Finset.univ fun t => bigSep Finset.univ fun h => (rowW j).view.loc (thrV d L) ↦[(rowW j).view.set]{qRow t h} fo := by
  rw [← set_listM]
  refine (pts_windows (thrV d L) listM.view rowR _ mem_rowR fullShare fo).trans ?_
  refine bigSep_congr fun j _ => ?_
  refine (congrArg (fun I => (listM.view.loc (thrV d L) ↦[I]{fullShare} fo : sProp 𝕄))
    (show (listM.view.slice (rowR j)).set = (rowW j).view.set from (View.set_reshape _ _).symm)).trans ?_
  refine (pointsTo_piecesOf (ℓ := listM.view.loc (thrV d L)) (rowW j).view.set fo (o := 2) (by decide) fullShare).trans ?_
  exact bigSep_congr fun t _ => pointsTo_piecesOf (ℓ := listM.view.loc (thrV d L)) (rowW j).view.set fo (o := 2) (by decide) _

/-- A table at a share, by the shares of its halves that the gathers hold. -/
theorem tab_halves (t : Fin 2) :
    ((tabM t).view.loc (thrV d L) ↦{q} ft t : sProp 𝕄)
      = bigSep Finset.univ fun h => bigSep Finset.univ fun j => (srcW t h).view.loc (thrV d L) ↦[(srcW t h).view.set]{qTab q j} ft t := by
  rw [← set_tabM t]
  refine (pts_windows (thrV d L) (tabM t).view halfR _ mem_halfR q (ft t)).trans ?_
  exact bigSep_congr fun h _ => pointsTo_piecesOf (ℓ := (tabM t).view.loc (thrV d L)) ((tabM t).view.slice (halfR h)).set (ft t) (o := 4) (by decide) q

/-- The gathers' numbers and their tables, rows and halves. -/
def gatherEquiv : Fin 2 × Fin 4 × Fin 2 ≃ Fin 16 where
  toFun x := ⟨4 * x.2.1.val + 2 * x.2.2.val + x.1.val, by omega⟩
  invFun i := (tabN i.val, rowN i.val, halfN i.val)
  left_inv := by decide
  right_inv := by decide

/-- What all the gathers hold: the two buffers, the list, and the shares of the two tables. -/
theorem held_all :
    (bigSep Finset.univ fun i : Fin 16 => held d L q ft fb fo (tabN i.val) (rowN i.val) (halfN i.val))
      = iprop((bigSep Finset.univ fun t => ((bufM t).view.loc (thrV d L) ↦{fullShare} fb t : sProp 𝕄))
          ∗ (listM.view.loc (thrV d L) ↦{fullShare} fo)
          ∗ bigSep Finset.univ fun t => ((tabM t).view.loc (thrV d L) ↦{q} ft t : sProp 𝕄)) := by
  rw [bigSep_univ_equiv gatherEquiv]
  have e : ∀ x : Fin 2 × Fin 4 × Fin 2, held (F := F) d L q ft fb fo (tabN (gatherEquiv x).val) (rowN (gatherEquiv x).val) (halfN (gatherEquiv x).val)
      = held d L q ft fb fo x.1 x.2.1 x.2.2 := fun x => by
    have h := gatherEquiv.symm_apply_apply x
    have h1 : tabN (gatherEquiv x).val = x.1 := congrArg Prod.fst h
    have h2 : rowN (gatherEquiv x).val = x.2.1 := congrArg (fun x => x.2.1) h
    have h3 : halfN (gatherEquiv x).val = x.2.2 := congrArg (fun x => x.2.2) h
    rw [h1, h2, h3]
  refine (bigSep_congr fun x _ => e x).trans ?_
  rw [bigSep_univ_prod]
  simp only [bigSep_univ_prod, held, bigSep_sep']
  refine congrArg₂ _ (bigSep_congr fun t _ => (buf_dst d L t (fb t)).symm) (congrArg₂ _ ?_ ?_)
  · rw [list_rows]; exact Pipeline.bigSep_univ_comm _
  · refine bigSep_congr fun t _ => ?_
    rw [tab_halves]; exact Pipeline.bigSep_univ_comm _

end Held

end Cert.Proof.Gather
-- ==== Proof.Gather.Tile.lean ====
/-
  ONE TASK. A task fetches its ids, starts sixteen gathers, waits for them all, starts the eight copies of the gathered
  planes to the result, and waits for those. The sixteen gathers share one semaphore, the four copies out of each buffer
  share another; none of the waits but the last says which of the transfers is done, so what they deliver is collected
  once all of the waits are behind. Here: one lemma for each loop of the task, and the task by those lemmas. After it
  the task's windows of the result hold the rows of the two tables that its ids name.
-/
module

public import proofs.«01_k».proof.Proof.Gather.Windows

@[expose] public section

noncomputable section

namespace Cert.Proof.Gather

open Cert.KernelIdeal Cert.KernelIdeal.Gen
open Idealize.ShloMosaic
open Idealize.ShloMosaic.SparseCore (S V T rows gatherPayload)
open Idealize.ShloMosaic.SparseCore.Cfg (HIx ownBufs ownSems0 ownCells ownRefs mem_ownCells mem_ownRefs)
open Idealize.ShloMosaic.Transfers (Batch pending bigSep_pending_step bigSep_pending_zero)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

abbrev 𝒱₀ : Variants := Variants.none

/-- A loop, by an invariant of its steps. -/
theorem wp_steps {M : Type} [URA M] {P : Type 1} (op : ℕ → P → P) (wpf : P → sProp M) (I : ℕ → sProp M) (k : P) :
    ∀ n i : ℕ, (∀ m, i ≤ m → m < i + n → ∀ k', I m ⊢ iprop((I (m + 1) -∗ wpf k') -∗ wpf (op m k')))
      → (I i ⊢ iprop((I (i + n) -∗ wpf k) -∗ wpf (steps op n i k)))
  | 0, i, _ => by
    show I i ⊢ iprop((I i -∗ wpf k) -∗ wpf k)
    iintro HI HK
    iapply HK; iexact HI
  | n + 1, i, h => by
    have ih := wp_steps op wpf I k n (i + 1) fun m hm hm' => h m (by omega) (by omega)
    rw [show i + 1 + n = i + (n + 1) by omega] at ih
    show I i ⊢ iprop((I (i + (n + 1)) -∗ wpf k) -∗ wpf (op i (steps op n (i + 1) k)))
    have hi := h i le_rfl (by omega) (steps op n (i + 1) k)
    iintro HI HK
    iapply hi $$ HI
    iintro HI
    iapply ih $$ HI
    iexact HK

/-- The rows of one gather. -/
abbrev nRows : ℕ := S128x16.size gathers_S1000000x16_S128x16.axis'
theorem nRows_pos : 0 < nRows := by decide
theorem nRows_list : S128.numel = nRows := rfl

section Tile

variable (d : Dev nD) (L : grid0.Coords) (q : PosShare TreeShare)
variable (ft : (t : Fin 2) → Buf (Elt F) ((tabM t).view.loc (thrV d L)))
variable (fb gb : (t : Fin 2) → Buf (Elt F) ((bufM t).view.loc (thrV d L)))
variable (fo : Buf (Elt F) (listM.view.loc (thrV d L)))
variable (fu gu : Buf (Elt F) (outM.view.loc (thrV d L)))

/-! ## The gathers -/

/-- What row `k` of gather `i` delivers: its row of the buffer, and what it borrowed of the list and of the table. -/
def gatherD (i : Fin 16) (k : Fin nRows) : sProp 𝕄 :=
  rowGot (thrV d L) (srcW (tabN i.val) (halfN i.val)) (dstW (tabN i.val) (rowN i.val) (halfN i.val)) gathers_S1000000x16_S128x16 (rowW (rowN i.val))
    nRows_list nRows_pos (qTab q (rowN i.val)) (qRow (tabN i.val) (halfN i.val)) (ft (tabN i.val)) (gb (tabN i.val)) fo k

instance (k : Fin (16 * nRows)) : Storable (upEmb : UEmb _ 𝕄) (grouped (gatherD d L q ft gb fo) k) := by
  unfold grouped gatherD; infer_instance

/-- The gathers' batch, `i` of them started and `u` units waited for. -/
abbrev gatherB (i u : ℕ) : sProp 𝕄 :=
  Batch countersEmb (thrV d L) (.dma gSem) (default : HIx 1) 512 (grouped (gatherD d L q ft gb fo)) (nRows * i) u

/-- Before gather `i`: the gathers before it started, and what those from it on are to hold. -/
def gathering (i : ℕ) : sProp 𝕄 :=
  iprop(gatherB d L q ft gb fo i 0
    ∗ bigSep (pending (n := 16) i) fun i => held d L q ft fb fo (tabN i.val) (rowN i.val) (halfN i.val))

variable [FloatOps F] (Q : PUnit.{1} → sProp (MT nD τ sig (HIx 1) (Elt F) ℕ UU ℕ))

/-- The weakest precondition of a program of the task. -/
abbrev wpV (k : TaskProg F L) : sProp 𝕄 := wp frame (wpE (defs₀ (F := F)) 𝒱₀ (thrV d L) none) Set.univ k Q

theorem row_credit (t : Fin 2) (j : Fin 4) (h : Fin 2) (k : Fin nRows) :
    ((dstW t j h).slice (S128x16.rowRect gathers_S1000000x16_S128x16.axis' k) (S128x16.stride_rowRect gathers_S1000000x16_S128x16.axis' k)).view.dmaCredit = 512 := by
  revert t j h k; decide

/-- Gather `i` started. -/
theorem gather_start (hin : ∀ y, (listM.view.read (Elt F) fo y).toNat < 1000000)
    (hgb : ∀ t y, (bufM t).view.read (Elt F) (gb t) y = bufVal (listM.view.read (Elt F) fo) ((tabM t).view.read (Elt F) (ft t)) y)
    (i : ℕ) (hi : i < 16) (k : TaskProg F L) :
    gathering d L q ft fb gb fo i ⊢ iprop((gathering d L q ft fb gb fo (i + 1) -∗ wpV d L Q k) -∗ wpV d L Q (gatherN L i k)) := by
  have hin' : ∀ x, ((rowW (rowN i)).view.read (Elt F) fo x).toNat < S1000000x16.size gathers_S1000000x16_S128x16.axis := fun x => by
    rw [read_rowW]; exact hin _
  have hst := wp_gatherBatch countersEmb (defs := defs₀ (F := F)) 𝒱₀ (thrV d L) none (Q := Q) (k := fun _ => k)
    (hp := rfl) (src := srcW (tabN i) (halfN i)) (dst := dstW (tabN i) (rowN i) (halfN i)) (hg := gathers_S1000000x16_S128x16)
    (offs := rowW (rowN i)) (hn := nRows_list) (sem := gSem) (hsrc := View.wordExact_bits rfl) (he := rfl) (hsp := Or.inl rfl) (hr := by decide)
    (q := qTab q (rowN i)) (qo := qRow (tabN i) (halfN i)) (fs := ft (tabN i)) (fd := fb (tabN i)) (gd := gb (tabN i)) (fo := fo)
    (default : HIx 1) 512 (⟨i, hi⟩ : Fin 16) (gatherD d L q ft gb fo) (row_credit (tabN i) (rowN i) (halfN i)) nRows_pos hin' ?_ (fun _ => .rfl)
  · unfold gathering
    rw [bigSep_pending_step _ i hi]
    iintro ⟨HB, Hh, HP⟩ HK
    unfold held
    icases Hh with ⟨Hd, Ho, Hs⟩
    unfold gatherN gatherOp
    iapply hst $$ [HB Hd Ho Hs]
    · isplitl [Hs]; · iexact Hs
      isplitl [Hd]; · iexact Hd
      isplitl [Ho]; · iexact Ho
      iexact HB
    iintro HB
    iapply HK
    isplitl [HB]; · iexact HB
    iexact HP
  · intro x
    refine Eq.trans ?_ (congrArg _ (gather_lands (tabN i) (rowN i) (halfN i) (ft (tabN i)) (gb (tabN i)) fo nRows_list hin' (hgb _) x))
    rw [View.read_apply, cast_cast]; rfl

/-! ## The waits -/

variable (O : CellTallies nD τ sig (HIx 1)) (W : Waits sig (HIx 1))

/-- The task's account of its waits: what it owed at the start, and only waits of its own since. -/
def owing : sProp (MT nD τ sig (HIx 1) (Elt F) ℕ UU ℕ) :=
  iprop(∃ W', ⌜∀ p ∈ W', p ∈ W ∨ p.2 = none⌝ ∗ owes (thrV d L) O W')

/-- Waits of the task may be made at any time. -/
abbrev mayWait : sProp (MT nD τ sig (HIx 1) (Elt F) ℕ UU ℕ) := Transfers.MayWaits (thrV d L) (default : HIx 1) O

/-- A wait for one transfer of `a * N` units on the semaphore of a batch. -/
theorem wait_batch {sp sp' : Space} {s s' : Shape} {e e' : EltTy} {n : ℕ} {sem : DmaSem sig}
    {srcw : Memref sig .scVector sp' s' e'} {dstw : Memref sig .scVector sp s e} {hsrc : srcw.view.WordExact} {hdst : dstw.view.WordExact}
    (N a : ℕ) (hJ : dstw.view.dmaCredit = a * N) (D : Fin n → sProp (MT nD τ sig (HIx 1) (Elt F) ℕ UU ℕ)) (j u : ℕ) (hu : u + a * N ≤ N * j) (k : TaskProg F L) :
    iprop(mayWait d L O ∗ Batch countersEmb (thrV d L) (.dma sem) (default : HIx 1) N D j u ∗ owing d L O W)
      ⊢ iprop((iprop(Batch countersEmb (thrV d L) (.dma sem) (default : HIx 1) N D j (u + a * N) ∗ owing d L O W) -∗ wpV d L Q k)
          -∗ wpV d L Q (.op (.waitDma2 sem srcw dstw hsrc hdst) fun _ => k)) := by
  unfold owing
  iintro ⟨#Hmw, HB, %W', %hW', HO⟩ HK
  iapply (Transfers.wp_waitBatchMulO countersEmb 𝒱₀ (thrV d L) none (default : HIx 1) a hJ hu) $$ [HB HO]
  · isplitl [HB]; · iexact HB
    isplitl [HO]; · iexact HO
    iapply (Transfers.MayWaits.elim (SemLoc.dma sem)) $$ Hmw
  iintro ⟨HB, HO⟩
  iapply HK
  isplitl [HB]; · iexact HB
  iexists _; isplitr
  swap; · iexact HO
  ipureintro; intro p hp
  rcases Finset.mem_insert.mp hp with hp | hp
  · exact .inr (hp ▸ rfl)
  · exact hW' p hp

/-- Before wait `i` for the gathers: the waits before it made. -/
def gatherWaiting (i : ℕ) : sProp 𝕄 :=
  iprop(mayWait d L O ∗ gatherB d L q ft gb fo 16 (nRows * 512 * i) ∗ owing d L O W)

theorem dst_credit (t : Fin 2) (j : Fin 4) (h : Fin 2) : (dstW t j h).view.dmaCredit = nRows * 512 := by
  revert t j h; decide

/-- Wait `i` for the gathers. -/
theorem gather_wait (i : ℕ) (hi : i < 16) (k : TaskProg F L) :
    gatherWaiting d L q ft gb fo O W i
      ⊢ iprop((gatherWaiting d L q ft gb fo O W (i + 1) -∗ wpV d L Q k) -∗ wpV d L Q (gatherWaitN L i k)) := by
  have hu : nRows * 512 * i + nRows * 512 ≤ 512 * (nRows * 16) := by
    show 128 * 512 * i + 128 * 512 ≤ 512 * (128 * 16); omega
  have h := wait_batch d L Q O W (sem := gSem) (srcw := srcW (tabN i) (halfN i)) (dstw := dstW (tabN i) (rowN i) (halfN i))
    (hsrc := View.wordExact_bits rfl) (hdst := (View.wordExact_bits rfl).reshape _ _) 512 nRows (dst_credit (tabN i) (rowN i) (halfN i))
    (grouped (gatherD d L q ft gb fo)) (nRows * 16) (nRows * 512 * i) hu k
  unfold gatherWaiting
  iintro ⟨#Hmw, HB, HO⟩ HK
  unfold gatherWaitN gatherWait
  iapply h $$ [HB HO]
  · isplitr; · iexact Hmw
    isplitl [HB]; · iexact HB
    iexact HO
  iintro ⟨HB, HO⟩
  iapply HK
  isplitr; · iexact Hmw
  isplitl [HB]; · iexact HB
  iexact HO

/-! ## The copies out -/

/-- A plane's window of the result, at contents `f`. -/
abbrev outPts (f : Buf (Elt F) (outM.view.loc (thrV d L))) (t : Fin 2) (j : Fin 4) : sProp (MT nD τ sig (HIx 1) (Elt F) ℕ UU ℕ) :=
  outM.view.loc (thrV d L) ↦[(outM.view.slice (outR L t j)).set]{fullShare} f

/-- A plane of gathered rows. -/
abbrev planePts (t : Fin 2) (j : Fin 4) : sProp 𝕄 :=
  (planeW t j).view.loc (thrV d L) ↦[(planeW t j).view.set]{fullShare} gb t

/-- What copy `j` out of buffer `t` delivers: the window of the result, written, and the plane again. -/
def copyD (t : Fin 2) (j : Fin 4) : sProp 𝕄 := iprop(outPts d L gu t j ∗ planePts d L gb t j)

instance (t : Fin 2) (j : Fin 4) : Storable (upEmb : UEmb _ 𝕄) (copyD d L gb gu t j) := by unfold copyD; infer_instance

/-- The batch of the copies out of buffer `t`, `i` of them started and `u` units waited for. -/
abbrev copyB (t : Fin 2) (i u : ℕ) : sProp 𝕄 :=
  Batch countersEmb (thrV d L) (.dma (wSem t)) (default : HIx 1) 131072 (copyD d L gb gu t) i u

/-- Before copy `i` out of buffer `t`. -/
def copying (t : Fin 2) (i : ℕ) : sProp 𝕄 :=
  iprop(copyB d L gb gu t i 0 ∗ bigSep (pending (n := 4) i) fun j => iprop(outPts d L fu t j ∗ planePts d L gb t j))

theorem rowN_four (i : ℕ) (hi : i < 4) : rowN (4 * i) = ⟨i, hi⟩ := Fin.ext (by show 4 * i / 4 % 4 = i; omega)

/-- A box of 128 rows of 32 in the result, and the window at it. -/
abbrev outRect (off : Fin 2 → ℕ) (inb : ∀ a, off a + S128x32.size a ≤ S16384x64.size a) : Rect S16384x64 :=
  Rect.unit (s := S16384x64) off S128x32.size inb
abbrev outWin (off : Fin 2 → ℕ) (inb : ∀ a, off a + S128x32.size a ≤ S16384x64.size a) : Memref sig .scVector .hbm S128x32 .f32 :=
  outM.slice (outRect off inb) (fun _ => rfl)

/-- A copy into a window of the result, started as transfer `i` of a batch on its semaphore. If what it copies is what
    `gu` holds in the window, the window is at `gu` once the copy has landed. -/
theorem copy_core (off : Fin 2 → ℕ) (inb : ∀ a, off a + S128x32.size a ≤ S16384x64.size a) (src : Memref sig .scVector .vmem S128x32 .f32)
    (sem : DmaSem sig) (fs : Buf (Elt F) (src.view.loc (thrV d L))) {n : ℕ} (D : Fin n → sProp (MT nD τ sig (HIx 1) (Elt F) ℕ UU ℕ)) (i : ℕ) (hi : i < n)
    {hsrc : src.view.WordExact} {hdst : (outWin off inb).view.WordExact}
    (hl : ∀ x, src.view.read (Elt F) fs x = outM.view.read (Elt F) gu ((outRect off inb).emb x))
    (hD : iprop((outM.view.loc (thrV d L) ↦[(outM.view.slice (outRect off inb)).set]{fullShare} gu)
      ∗ (src.view.loc (thrV d L) ↦[src.view.set]{fullShare} fs)) ⊢ D ⟨i, hi⟩) (k : TaskProg F L) :
    iprop(Batch countersEmb (thrV d L) (.dma sem) (default : HIx 1) 131072 D i 0
        ∗ (outM.view.loc (thrV d L) ↦[(outM.view.slice (outRect off inb)).set]{fullShare} fu)
        ∗ (src.view.loc (thrV d L) ↦[src.view.set]{fullShare} fs))
      ⊢ iprop((Batch countersEmb (thrV d L) (.dma sem) (default : HIx 1) 131072 D (i + 1) 0 -∗ wpV d L Q k)
          -∗ wpV d L Q (.op (.enqueueDma src (.here (outWin off inb)) (.dma sem) hsrc hdst ⟨Or.inl rfl, trivial⟩) fun _ => k)) := by
  have hw : (outM.view.loc (thrV d L) ↦[(outM.view.slice (outRect off inb)).set]{fullShare}
      (outWin off inb).view.write (Elt F) fu (src.view.read (Elt F) fs) Finset.univ
        : sProp (MT nD τ sig (HIx 1) (Elt F) ℕ UU ℕ))
      = (outM.view.loc (thrV d L) ↦[(outM.view.slice (outRect off inb)).set]{fullShare} gu) := by
    refine pointsTo_congr fun y hy => ?_
    obtain ⟨x, -, rfl⟩ := Finset.mem_map.mp hy
    exact (View.write_emb_of_mem (v := (outWin off inb).view) fu _ (Finset.mem_univ x)).trans (hl x)
  have h := Transfers.wp_dmaBatch countersEmb (defs := defs₀ (F := F)) 𝒱₀ (thrV d L) none (Q := Q) (k := fun _ => k)
    (src := src) (via := .same) (dst := outWin off inb) (sm := .dma sem) (hsrc := hsrc) (hdst := hdst) (hsem := ⟨Or.inl rfl, trivial⟩)
    (q := fullShare) (fs := fs) (Sd := (outM.view.slice (outRect off inb)).set) (fd := fu) (D := D) (j := i) (u := 0)
    (default : HIx 1) 131072 rfl subset_rfl hi (Nat.zero_le _) ((sep_mono_left (Entails.of_eq hw)).trans hD)
  iintro ⟨HB, Ho, Hp⟩ HK
  iapply h $$ [HB Ho Hp]
  · isplitl [Hp]; · iexact Hp
    isplitl [Ho]; · iexact Ho
    iexact HB
  iexact HK

theorem out_credit (t : Fin 2) (j : Fin 4) : (outW L t j).view.dmaCredit = 1 * 131072 := by
  match t with | 0 => rfl | 1 => rfl

/-- What each plane holds is what the result shall hold in its window. -/
theorem plane_out (fs : Fin 2 → S1000000x32.Idx → Elt F .f32) (fi : S128x128.Idx → BitVec 32)
    (hids : ∀ y, listM.view.read (Elt F) fo y = fi (ix2 (idRow L (y 0)) (y 1)))
    (hgb : ∀ t y, (bufM t).view.read (Elt F) (gb t) y = bufVal (listM.view.read (Elt F) fo) (fs t) y)
    (hgu : ∀ y, outM.view.read (Elt F) gu y = outVal fi fs y) (t : Fin 2) (j : Fin 4) (x : S128x32.Idx) :
    (planeW t j).view.read (Elt F) (gb t) x = outM.view.read (Elt F) gu (ix2 (outRow L j (x 0)) (outCol t (x 1))) := by
  rw [read_planeW, hgb, hgu, outVal_window]
  exact congrArg (fun f => bufVal f (fs t) (ix3 j (x 0) (x 1))) (funext hids)

/-- Copy `i` out of buffer `t` started. -/
theorem copy_start (hl : ∀ t j (x : S128x32.Idx), (planeW t j).view.read (Elt F) (gb t) x = outM.view.read (Elt F) gu (ix2 (outRow L j (x 0)) (outCol t (x 1))))
    (t : Fin 2) (i : ℕ) (hi : i < 4) (k : TaskProg F L) :
    copying d L gb fu gu t i ⊢ iprop((copying d L gb fu gu t (i + 1) -∗ wpV d L Q k) -∗ wpV d L Q (copyOp L t (rowN (4 * i)) k)) := by
  have h : iprop(copyB d L gb gu t i 0 ∗ outPts d L fu t ⟨i, hi⟩ ∗ planePts d L gb t ⟨i, hi⟩)
      ⊢ iprop((copyB d L gb gu t (i + 1) 0 -∗ wpV d L Q k) -∗ wpV d L Q (copyOp L t ⟨i, hi⟩ k)) := by
    match t with
    | 0 =>
      exact copy_core d L fu gu Q (k0_off2 L (BitVec.ofNat 32 i)) (k0_off2_inb L ⟨i, hi⟩) (planeW 0 ⟨i, hi⟩) (wSem 0) (gb 0) (copyD d L gb gu 0) i hi
        (fun x => (hl 0 ⟨i, hi⟩ x).trans (congrArg (outM.view.read (Elt F) gu) (outW_emb L 0 ⟨i, hi⟩ x).symm)) .rfl k
    | 1 =>
      exact copy_core d L fu gu Q (k0_off3 L (BitVec.ofNat 32 i)) (k0_off3_inb L ⟨i, hi⟩) (planeW 1 ⟨i, hi⟩) (wSem 1) (gb 1) (copyD d L gb gu 1) i hi
        (fun x => (hl 1 ⟨i, hi⟩ x).trans (congrArg (outM.view.read (Elt F) gu) (outW_emb L 1 ⟨i, hi⟩ x).symm)) .rfl k
  rw [rowN_four i hi]
  unfold copying
  rw [bigSep_pending_step _ i hi]
  iintro ⟨HB, ⟨Ho, Hp⟩, HP⟩ HK
  iapply h $$ [HB Ho Hp]
  · isplitl [HB]; · iexact HB
    isplitl [Ho]; · iexact Ho
    iexact Hp
  iintro HB
  iapply HK
  isplitl [HB]; · iexact HB
  iexact HP

/-- Both copies numbered `i` started. -/
theorem copies_start (hl : ∀ t j (x : S128x32.Idx), (planeW t j).view.read (Elt F) (gb t) x = outM.view.read (Elt F) gu (ix2 (outRow L j (x 0)) (outCol t (x 1))))
    (i : ℕ) (hi : i < 4) (k : TaskProg F L) :
    iprop(copying d L gb fu gu 0 i ∗ copying d L gb fu gu 1 i)
      ⊢ iprop((iprop(copying d L gb fu gu 0 (i + 1) ∗ copying d L gb fu gu 1 (i + 1)) -∗ wpV d L Q k) -∗ wpV d L Q (copyN L i k)) := by
  iintro ⟨H0, H1⟩ HK
  unfold copyN
  iapply (copy_start d L gb fu gu Q hl 0 i hi _) $$ H0
  iintro H0
  iapply (copy_start d L gb fu gu Q hl 1 i hi _) $$ H1
  iintro H1
  iapply HK
  isplitl [H0]; · iexact H0
  iexact H1

/-- Before wait `i` for the copies out of each buffer. -/
def copyWaiting (i : ℕ) : sProp 𝕄 :=
  iprop(mayWait d L O ∗ copyB d L gb gu 0 4 (131072 * i) ∗ copyB d L gb gu 1 4 (131072 * i) ∗ owing d L O W)

/-- Both waits numbered `i` for the copies out. -/
theorem copies_wait (i : ℕ) (hi : i < 4) (k : TaskProg F L) :
    copyWaiting d L gb gu O W i ⊢ iprop((copyWaiting d L gb gu O W (i + 1) -∗ wpV d L Q k) -∗ wpV d L Q (copyWaitN L i k)) := by
  have hu : 131072 * i + 1 * 131072 ≤ 131072 * 4 := by omega
  have h0 := fun k => wait_batch d L Q O W (sem := wSem 0) (srcw := planeW 0 (rowN (4 * i))) (dstw := outW L 0 (rowN (4 * i)))
    (hsrc := (View.wordExact_bits rfl).reshape _ _) (hdst := View.wordExact_bits rfl) 131072 1 (out_credit L 0 _)
    (copyD d L gb gu 0) 4 (131072 * i) hu k
  have h1 := fun k => wait_batch d L Q O W (sem := wSem 1) (srcw := planeW 1 (rowN (4 * i))) (dstw := outW L 1 (rowN (4 * i)))
    (hsrc := (View.wordExact_bits rfl).reshape _ _) (hdst := View.wordExact_bits rfl) 131072 1 (out_credit L 1 _)
    (copyD d L gb gu 1) 4 (131072 * i) hu k
  rw [show 131072 * i + 1 * 131072 = 131072 * (i + 1) by omega] at h0 h1
  unfold copyWaiting
  iintro ⟨#Hmw, H0, H1, HO⟩ HK
  unfold copyWaitN copyWait
  iapply (h0 _) $$ [H0 HO]
  · isplitr; · iexact Hmw
    isplitl [H0]; · iexact H0
    iexact HO
  iintro ⟨H0, HO⟩
  iapply (h1 _) $$ [H1 HO]
  · isplitr; · iexact Hmw
    isplitl [H1]; · iexact H1
    iexact HO
  iintro ⟨H1, HO⟩
  iapply HK
  isplitr; · iexact Hmw
  isplitl [H0]; · iexact H0
  isplitl [H1]; · iexact H1
  iexact HO

/-! ## The fetch of the ids -/

/-- The list once the fetch has landed. -/
abbrev fetched (fl : Buf (Elt F) (listM.view.loc (thrV d L))) (fi : Buf (Elt F) (idsM.view.loc (thrV d L))) : Buf (Elt F) (listM.view.loc (thrV d L)) :=
  listM.view.write (Elt F) fl ((fetchW L).view.read (Elt F) fi) Finset.univ

/-- The task's ids in HBM. -/
abbrev idsPts (fi : Buf (Elt F) (idsM.view.loc (thrV d L))) : sProp (MT nD τ sig (HIx 1) (Elt F) ℕ UU ℕ) :=
  (fetchW L).view.loc (thrV d L) ↦[(fetchW L).view.set]{fullShare} fi

/-- The fetch of the ids and its wait. -/
theorem fetch_wp (fl : Buf (Elt F) (listM.view.loc (thrV d L))) (fi : Buf (Elt F) (idsM.view.loc (thrV d L))) (k : TaskProg F L) :
    iprop(mayWait d L O ∗ idsPts d L fi ∗ (listM.view.loc (thrV d L) ↦{fullShare} fl) ∗ semVal (thrV d L, .dma fSem) 0 ∗ owing d L O W)
      ⊢ iprop((iprop(idsPts d L fi ∗ (listM.view.loc (thrV d L) ↦{fullShare} fetched d L fl fi) ∗ semVal (thrV d L, .dma fSem) 0 ∗ owing d L O W)
            -∗ wpV d L Q k) -∗ wpV d L Q (fetchOp L (fetchWait L k))) := by
  unfold owing
  iintro ⟨#Hmw, Hi, Hl, Hs, %W', %hW', HO⟩ HK
  unfold fetchOp
  iapply (Transfers.wp_dmaLocal countersEmb 𝒱₀ (thrV d L) none (src := fetchW L) (via := .same) (dst := listM) (q := fullShare) (fs := fi)
    (Sd := Finset.univ) (fd := fl) (default : HIx 1) listM.view.dmaCredit rfl (by decide) (Finset.subset_univ _)) $$ [Hi Hl Hs]
  · isplitl [Hi]; · iexact Hi
    isplitl [Hl]; · iexact Hl
    iexact Hs
  iintro Hfl
  unfold fetchWait
  iapply (Transfers.wp_waitLocalO countersEmb 𝒱₀ (thrV d L) none (default : HIx 1) (rfl : listM.view.dmaCredit = _)) $$ [Hfl HO]
  · isplitl [Hfl]; · iexact Hfl
    isplitl [HO]; · iexact HO
    iapply (Transfers.MayWaits.elim (SemLoc.dma fSem)) $$ Hmw
  iintro ⟨⟨Hl, Hi⟩, Hs, HO⟩
  iapply HK
  isplitl [Hi]; · iexact Hi
  isplitl [Hl]; · iexact Hl
  isplitl [Hs]; · iexact Hs
  iexists _; isplitr
  swap; · iexact HO
  ipureintro; intro p hp
  rcases Finset.mem_insert.mp hp with hp | hp
  · exact .inr (hp ▸ rfl)
  · exact hW' p hp

/-- The fetched list is the task's rows of the ids. -/
theorem read_fetched (fl : Buf (Elt F) (listM.view.loc (thrV d L))) (fi : Buf (Elt F) (idsM.view.loc (thrV d L))) (y : S4x128.Idx) :
    listM.view.read (Elt F) (fetched d L fl fi) y = idsM.view.read (Elt F) fi (ix2 (idRow L (y 0)) (y 1)) :=
  (View.read_write_of_mem (v := listM.view) fl _ (Finset.mem_univ y)).trans (read_fetchW L fi y)

/-- A buffer with given contents. -/
theorem exists_buf (t : Fin 2) (p : S4x128x32.Idx → Elt F .f32) :
    ∃ g : Buf (Elt F) ((bufM t).view.loc (thrV d L)), ∀ y, (bufM t).view.read (Elt F) g y = p y :=
  match t with | 0 => ⟨p, fun _ => rfl⟩ | 1 => ⟨p, fun _ => rfl⟩

end Tile

end Cert.Proof.Gather
-- ==== Proof.Gather.Task.lean ====
/-
  ONE TASK, WHOLE. The loops of the task put together: from the task's ids, its shares of the tables, its windows of the
  result, its scratch buffers and its semaphores at zero, the task runs to its end, and hands everything back, its windows
  of the result holding the rows of the tables that its ids name.
-/
module

public import proofs.«01_k».proof.Proof.Gather.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.ShloMosaic.Transfers (Batch pending bigSep_pending_step bigSep_pending_zero)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-- A family over two, spelled out. -/
theorem bigSep_two {M : Type} [URA M] (Φ : Fin 2 → sProp M) : bigSep Finset.univ Φ = iprop(Φ 0 ∗ Φ 1) := bigSep_fin_two Φ

section Task

variable (d : Dev nD) (L : grid0.Coords) (q : PosShare TreeShare)
variable (ft : (t : Fin 2) → Buf (Elt F) ((tabM t).view.loc (thrV d L)))
variable (gb : (t : Fin 2) → Buf (Elt F) ((bufM t).view.loc (thrV d L)))
variable (fo : Buf (Elt F) (listM.view.loc (thrV d L)))
variable (fi : Buf (Elt F) (idsM.view.loc (thrV d L)))
variable (fu gu : Buf (Elt F) (outM.view.loc (thrV d L)))

/-- What the task holds of the arrays in HBM: its ids, its share of each table, and its windows of the result at `f`. -/
def taskRes (f : Buf (Elt F) (outM.view.loc (thrV d L))) : sProp 𝕄 :=
  iprop(idsPts d L fi ∗ (bigSep Finset.univ fun t => ((tabM t).view.loc (thrV d L) ↦{q} ft t : sProp 𝕄))
    ∗ bigSep Finset.univ fun t => bigSep Finset.univ fun j => outPts d L f t j)

/-- The two buffers of gathered rows. -/
abbrev bufsPts (fb : (t : Fin 2) → Buf (Elt F) ((bufM t).view.loc (thrV d L))) : sProp 𝕄 :=
  bigSep Finset.univ fun t => ((bufM t).view.loc (thrV d L) ↦{fullShare} fb t : sProp 𝕄)

/-- What the gathers deliver, joined: the buffers at the gathered rows, the list and the shares of the tables back. -/
theorem gathered :
    bigSep Finset.univ (grouped (gatherD d L q ft gb fo))
      ⊢ iprop(bufsPts d L gb ∗ (listM.view.loc (thrV d L) ↦{fullShare} fo)
          ∗ bigSep Finset.univ fun t => ((tabM t).view.loc (thrV d L) ↦{q} ft t : sProp 𝕄)) := by
  rw [bigSep_grouped, ← held_all]
  refine bigSep_mono fun i _ => ?_
  exact rowGot_join (thrV d L) (srcW (tabN i.val) (halfN i.val)) (dstW (tabN i.val) (rowN i.val) (halfN i.val)) gathers_S1000000x16_S128x16
    (rowW (rowN i.val)) nRows_list nRows_pos (qTab q (rowN i.val)) (qRow (tabN i.val) (halfN i.val)) (ft (tabN i.val)) (gb (tabN i.val)) fo

/-- The batch of the gathers, every wait made, as the batch to be collected. -/
theorem gatherB_all :
    gatherB d L q ft gb fo 16 (nRows * 512 * 16)
      = Batch countersEmb (thrV d L) (.dma gSem) (default : HIx 1) 512 (grouped (gatherD d L q ft gb fo)) (16 * nRows) (512 * (16 * nRows)) := by
  rw [show nRows * 512 * 16 = 512 * (16 * nRows) by decide, gatherB, show nRows * 16 = 16 * nRows by decide]

/-- What the copies out of buffer `t` deliver, joined. -/
theorem copied (t : Fin 2) :
    bigSep Finset.univ (copyD d L gb gu t)
      ⊢ iprop((bigSep Finset.univ fun j => outPts d L gu t j) ∗ ((bufM t).view.loc (thrV d L) ↦{fullShare} gb t : sProp 𝕄)) := by
  rw [buf_plane]
  exact Transfers.bigSep_sep_out _ _ _

/-- What the copies out of buffer `t` take. -/
theorem copying_zero (t : Fin 2) :
    iprop(copyB d L gb gu t 0 0 ∗ (bigSep Finset.univ fun j => outPts d L fu t j) ∗ ((bufM t).view.loc (thrV d L) ↦{fullShare} gb t))
      ⊢ copying d L gb fu gu t 0 := by
  unfold copying
  rw [buf_plane, ← bigSep_pending_zero, bigSep_sep']

variable [FloatOps F] (Q : PUnit.{1} → sProp (MT nD τ sig (HIx 1) (Elt F) ℕ UU ℕ))
variable (O : CellTallies nD τ sig (HIx 1)) (W : Waits sig (HIx 1))

/-- The task from its fetched list on. -/
theorem rest_wp (fb : (t : Fin 2) → Buf (Elt F) ((bufM t).view.loc (thrV d L)))
    (hin : ∀ y, (listM.view.read (Elt F) fo y).toNat < 1000000)
    (hids : ∀ y, listM.view.read (Elt F) fo y = idsM.view.read (Elt F) fi (ix2 (idRow L (y 0)) (y 1)))
    (hgb : ∀ t y, (bufM t).view.read (Elt F) (gb t) y = bufVal (listM.view.read (Elt F) fo) ((tabM t).view.read (Elt F) (ft t)) y)
    (hgu : ∀ y, outM.view.read (Elt F) gu y = outVal (idsM.view.read (Elt F) fi) (fun t => (tabM t).view.read (Elt F) (ft t)) y) :
    iprop(mayWait d L O ∗ taskRes d L q ft fi fu ∗ (listM.view.loc (thrV d L) ↦{fullShare} fo) ∗ bufsPts d L fb
        ∗ semVal (thrV d L, .dma gSem) 0 ∗ semVal (thrV d L, .dma (wSem 0)) 0 ∗ semVal (thrV d L, .dma (wSem 1)) 0 ∗ owing d L O W)
      ⊢ iprop((iprop(taskRes d L q ft fi gu ∗ (listM.view.loc (thrV d L) ↦{fullShare} fo) ∗ bufsPts d L gb
            ∗ semVal (thrV d L, .dma gSem) 0 ∗ semVal (thrV d L, .dma (wSem 0)) 0 ∗ semVal (thrV d L, .dma (wSem 1)) 0 ∗ owing d L O W) -∗ Q ⟨⟩)
          -∗ wpV d L Q (steps (gatherN L) 16 0 <| steps (gatherWaitN L) 16 0 <| steps (copyN L) 4 0 <| steps (copyWaitN L) 4 0 <| pure ⟨⟩)) := by
  have hplane := plane_out d L gb fo gu (fun t => (tabM t).view.read (Elt F) (ft t)) (idsM.view.read (Elt F) fi) hids hgb hgu
  unfold taskRes
  iintro ⟨#Hmw, ⟨Hi, Ht, Ho⟩, Hl, Hb, HsG, Hs0, Hs1, HO⟩ HK
  -- the gathers
  imod (Transfers.batch_alloc' countersEmb (thrV d L) (default : HIx 1) 512 (grouped (gatherD d L q ft gb fo)) (sm := .dma gSem) (E := Set.univ)) $$ HsG with HB
  ihave Hh := (Entails.of_eq (held_all d L q ft fb fo).symm) $$ [Hb Hl Ht]
  · isplitl [Hb]; · iexact Hb
    isplitl [Hl]; · iexact Hl
    iexact Ht
  iapply (wp_steps (gatherN L) (wpV d L Q) (gathering d L q ft fb gb fo) _ 16 0
    (fun m _ hm k => gather_start d L q ft fb gb fo Q hin hgb m (by omega) k)) $$ [HB Hh]
  · unfold gathering
    isplitl [HB]; · iexact HB
    rw [← bigSep_pending_zero]; iexact Hh
  unfold gathering
  iintro ⟨HB, -⟩
  -- the waits for them
  iapply (wp_steps (gatherWaitN L) (wpV d L Q) (gatherWaiting d L q ft gb fo O W) _ 16 0
    (fun m _ hm k => gather_wait d L q ft gb fo Q O W m (by omega) k)) $$ [HB HO]
  · unfold gatherWaiting
    isplitr; · iexact Hmw
    isplitl [HB]; · iexact HB
    iexact HO
  unfold gatherWaiting
  iintro ⟨-, HB, HO⟩
  ihave HB' := (Entails.of_eq (gatherB_all d L q ft gb fo)) $$ HB
  imod (Transfers.batch_collect' countersEmb (thrV d L) (by decide : 0 < 512)) $$ HB' with ⟨HD, HsG⟩
  ihave H := (gathered d L q ft gb fo) $$ HD
  icases H with ⟨Hb, Hl, Ht⟩
  -- the copies out
  imod (Transfers.batch_alloc' countersEmb (thrV d L) (default : HIx 1) 131072 (copyD d L gb gu 0) (sm := .dma (wSem 0)) (E := Set.univ)) $$ Hs0 with HB0
  imod (Transfers.batch_alloc' countersEmb (thrV d L) (default : HIx 1) 131072 (copyD d L gb gu 1) (sm := .dma (wSem 1)) (E := Set.univ)) $$ Hs1 with HB1
  ihave Hb' := (Entails.of_eq (bigSep_two _)) $$ Hb
  icases Hb' with ⟨Hb0, Hb1⟩
  ihave Ho' := (Entails.of_eq (bigSep_two _)) $$ Ho
  icases Ho' with ⟨Ho0, Ho1⟩
  iapply (wp_steps (copyN L) (wpV d L Q) (fun m => iprop(copying d L gb fu gu 0 m ∗ copying d L gb fu gu 1 m)) _ 4 0
    (fun m _ hm k => copies_start d L gb fu gu Q hplane m (by omega) k)) $$ [HB0 Hb0 Ho0 HB1 Hb1 Ho1]
  · isplitl [HB0 Hb0 Ho0]
    · iapply (copying_zero d L gb fu gu 0)
      isplitl [HB0]; · iexact HB0
      isplitl [Ho0]; · iexact Ho0
      iexact Hb0
    · iapply (copying_zero d L gb fu gu 1)
      isplitl [HB1]; · iexact HB1
      isplitl [Ho1]; · iexact Ho1
      iexact Hb1
  unfold copying
  iintro ⟨⟨HB0, -⟩, ⟨HB1, -⟩⟩
  -- the waits for them
  iapply (wp_steps (copyWaitN L) (wpV d L Q) (copyWaiting d L gb gu O W) _ 4 0
    (fun m _ hm k => copies_wait d L gb gu Q O W m (by omega) k)) $$ [HB0 HB1 HO]
  · unfold copyWaiting
    isplitr; · iexact Hmw
    isplitl [HB0]; · iexact HB0
    isplitl [HB1]; · iexact HB1
    iexact HO
  unfold copyWaiting
  iintro ⟨-, HB0, HB1, HO⟩
  imod (Transfers.batch_collect' countersEmb (thrV d L) (by decide : 0 < 131072)) $$ HB0 with ⟨HD0, Hs0⟩
  imod (Transfers.batch_collect' countersEmb (thrV d L) (by decide : 0 < 131072)) $$ HB1 with ⟨HD1, Hs1⟩
  ihave H0 := (copied d L gb gu 0) $$ HD0
  icases H0 with ⟨Ho0, Hb0⟩
  ihave H1 := (copied d L gb gu 1) $$ HD1
  icases H1 with ⟨Ho1, Hb1⟩
  rw [wp_pure]
  imodintro
  iapply HK
  isplitl [Hi Ht Ho0 Ho1]
  · isplitl [Hi]; · iexact Hi
    isplitl [Ht]; · iexact Ht
    iapply (Entails.of_eq (bigSep_two _).symm)
    isplitl [Ho0]; · iexact Ho0
    iexact Ho1
  isplitl [Hl]; · iexact Hl
  isplitl [Hb0 Hb1]
  · iapply (Entails.of_eq (bigSep_two _).symm)
    isplitl [Hb0]; · iexact Hb0
    iexact Hb1
  isplitl [HsG]; · iexact HsG
  isplitl [Hs0]; · iexact Hs0
  isplitl [Hs1]; · iexact Hs1
  iexact HO

end Task

end Cert.Proof.Gather
-- ==== Proof.Gather.Whole.lean ====
/-
  ONE TASK AS THE LAUNCH CALLS IT. The buffers of the arrays by the names that the launch gives them, what the result
  holds at the end, what a task takes and hands back, and the task from its whole local memory: its scratch buffers and
  its semaphores are among the subcore's own, and it hands all of those back, the semaphores at zero.
-/
module

public import proofs.«01_k».proof.Proof.Gather.Task

@[expose] public section

noncomputable section

namespace Cert.Proof.Gather

open Cert.KernelIdeal Cert.KernelIdeal.Gen
open Idealize.ShloMosaic
open Idealize.ShloMosaic.SparseCore (S V)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

/-- The ids, the two tables, the ids as a square, the result. -/
abbrev aLoc (d : Dev nD) : Loc nD τ sig := (SparseCore.T d).loc main_arg0
abbrev tLoc (d : Dev nD) : Loc nD τ sig := (SparseCore.T d).loc main_arg1
abbrev cLoc (d : Dev nD) : Loc nD τ sig := (SparseCore.T d).loc main_arg2
abbrev sLoc (d : Dev nD) : Loc nD τ sig := (SparseCore.T d).loc main_v0
abbrev oLoc (d : Dev nD) : Loc nD τ sig := (SparseCore.T d).loc main_v1

/-- A pair of tables, as a family. -/
abbrev pair {α : Type} (a b : α) : Fin 2 → α := fun t => match t with | 0 => a | 1 => b

/-- The two tables' contents, as a task of device `d` addresses them. -/
abbrev tabs (d : Dev nD) (L : grid0.Coords) (a : Buf (Elt F) (tLoc d)) (b : Buf (Elt F) (cLoc d)) :
    (t : Fin 2) → Buf (Elt F) ((tabM t).view.loc (thrV d L)) :=
  fun t => match t with | 0 => a | 1 => b

/-- What the result holds at the end, of the square of ids and the two tables. -/
abbrev outOf (d : Dev nD) (fi : Buf (Elt F) (sLoc d)) (a : Buf (Elt F) (tLoc d)) (b : Buf (Elt F) (cLoc d)) : Buf (Elt F) (oLoc d) :=
  outVal (α := Elt F .f32) fi (pair (α := S1000000x32.Idx → Elt F .f32) a b)

theorem read_tabs (d : Dev nD) (L : grid0.Coords) (a : Buf (Elt F) (tLoc d)) (b : Buf (Elt F) (cLoc d)) :
    (fun t => (tabM t).view.read (Elt F) (tabs d L a b t)) = pair (α := S1000000x32.Idx → Elt F .f32) a b :=
  funext fun t => match t with | 0 => rfl | 1 => rfl

/-! ## The task's own buffers and semaphores -/

section Own

variable (d : Dev nD) (L : grid0.Coords)

abbrev cV : Fin τ.nSC := (L 0).castLE hcore0
abbrev jV : Fin τ.nSub := (L 1).castLE hsub0

/-- The task's DMA semaphores. -/
abbrev cell (a : DmaSem sig) : GSem nD τ sig := (thrV d L, .dma a)

theorem cell_ne {a b : DmaSem sig} (h : a ≠ b) : cell d L a ≠ cell d L b :=
  fun e => h (SemLoc.dma.inj (congrArg Prod.snd e))

/-- What the subcore owns besides the four semaphores of the task. -/
abbrev otherCells : Finset (GSem nD τ sig) :=
  ((((ownCells (thrV d L)).erase (cell d L gSem)).erase (cell d L (wSem 0))).erase (cell d L (wSem 1))).erase (cell d L fSem)

theorem ownSems0_V :
    (ownSems0 (V d (cV L) (jV L)) : sProp 𝕄)
      = iprop(semVal (cell d L gSem) 0 ∗ semVal (cell d L (wSem 0)) 0 ∗ semVal (cell d L (wSem 1)) 0 ∗ semVal (cell d L fSem) 0
          ∗ bigSep (otherCells d L) fun g => semVal g 0) := by
  have hmem : ∀ a : DmaSem sig, (SemLoc.dma a : SemLoc sig).isScoped .scVector = true → cell d L a ∈ ownCells (thrV d L) :=
    fun a h => (mem_ownCells (g := cell d L a)).mpr ⟨rfl, h⟩
  unfold SparseCore.Cfg.ownSems0
  rw [SparseCore.bigSep_erase' (hmem gSem (by decide)),
    SparseCore.bigSep_erase' (Finset.mem_erase.mpr ⟨cell_ne d L (by decide), hmem (wSem 0) (by decide)⟩),
    SparseCore.bigSep_erase' (Finset.mem_erase.mpr ⟨cell_ne d L (by decide), Finset.mem_erase.mpr ⟨cell_ne d L (by decide), hmem (wSem 1) (by decide)⟩⟩),
    SparseCore.bigSep_erase' (Finset.mem_erase.mpr ⟨cell_ne d L (by decide), Finset.mem_erase.mpr ⟨cell_ne d L (by decide),
      Finset.mem_erase.mpr ⟨cell_ne d L (by decide), hmem fSem (by decide)⟩⟩⟩)]

/-- The scratch buffers of the task, as buffers of the device. -/
abbrev scr (b : Ref sig .scVector) : DevRef τ sig := (procV L).devRef b

abbrev otherRefs : Finset (DevRef τ sig) :=
  (((ownRefs (τ := τ) (procV L)).erase (scr L cc0_scratch0)).erase (scr L cc0_scratch1)).erase (scr L cc0_scratch2)

theorem scr_ne {a b : Ref sig .scVector} (h : a ≠ b) : scr L a ≠ scr L b := fun e => h (Proc.devRef_injective _ e)

theorem ownBufs_V :
    (ownBufs (V d (cV L) (jV L)) : sProp 𝕄)
      = iprop((∃ f, listM.view.loc (thrV d L) ↦{fullShare} f) ∗ (∃ f, (bufM 0).view.loc (thrV d L) ↦{fullShare} f)
          ∗ (∃ f, (bufM 1).view.loc (thrV d L) ↦{fullShare} f)
          ∗ bigSep (otherRefs L) fun b => iprop(∃ f, ((d, b) : Loc nD τ sig) ↦{fullShare} f)) := by
  unfold SparseCore.Cfg.ownBufs
  refine (SparseCore.bigSep_erase' (SparseCore.Cfg.mem_ownRefs_of_owner (p := procV L) (b := scr L cc0_scratch0) rfl)).trans ?_
  rw [SparseCore.bigSep_erase' (Finset.mem_erase.mpr ⟨scr_ne L (by decide),
      SparseCore.Cfg.mem_ownRefs_of_owner (p := procV L) (b := scr L cc0_scratch1) rfl⟩),
    SparseCore.bigSep_erase' (Finset.mem_erase.mpr ⟨scr_ne L (by decide), Finset.mem_erase.mpr ⟨scr_ne L (by decide),
      SparseCore.Cfg.mem_ownRefs_of_owner (p := procV L) (b := scr L cc0_scratch2) rfl⟩⟩)]

end Own

/-! ## The task -/

section Body

variable (d : Dev nD) (L : grid0.Coords) (q : PosShare TreeShare) [FloatOps F]
variable (fi : Buf (Elt F) (sLoc d)) (a : Buf (Elt F) (tLoc d)) (b : Buf (Elt F) (cLoc d)) (fu : Buf (Elt F) (oLoc d))

/-- The task on the vector subcore at `L`: from its part of the arrays, the subcore's own memory and semaphores at zero, it
    runs to its end; its windows of the result hold what `outOf` says, the rest is handed back as it was, the semaphores
    at zero. -/
theorem tile_body (hF : (K (F := F)).Facts) (hpre : ∀ y : S128x128.Idx, BitVec.toNat (fi y) < 1000000)
    (O : CellTallies nD τ sig (HIx 1)) (W : Waits sig (HIx 1)) (hO : ∀ g, O g none = 0) :
    iprop(levAts (K (F := F)).L (K (F := F)).lev ∗ emp ∗ taskRes d L q (tabs d L a b) fi fu
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__k (F := F) L idsM (Memref.isWhole_whole _) (tabM 0) (Memref.isWhole_whole _) (tabM 1) (Memref.isWhole_whole _) outM (Memref.isWhole_whole _)
            listM (Memref.isWhole_whole _) (bufM 0) (Memref.isWhole_whole _) (bufM 1) (Memref.isWhole_whole _)
            cc0_scratch3 cc0_scratch4 cc0_scratch5 cc0_scoped0)
          fun _ => iprop(taskRes d L q (tabs d L a b) fi (outOf d fi a b)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]
  unfold body
  rw [(K (F := F)).scopedBufs_V hF d (cV L) (jV L), SparseCore.Cfg.scopedSems0_V (Val := Elt F) d (cV L) (jV L), ownSems0_V, ownBufs_V]
  iintro ⟨#Hlv, -, HR, ⟨⟨%fl, Hl⟩, ⟨%f1, H1⟩, ⟨%f2, H2⟩, Hbufs⟩, ⟨HsG, Hs0, Hs1, HsF, Hsems⟩, HO⟩
  ihave Hmw := (show levAts (K (F := F)).L (K (F := F)).lev ⊢ Transfers.MayWaits (thrV d L) (default : HIx 1) O from
    (K (F := F)).mayWaits_none (thr := thrV d L) hO) $$ Hlv
  icases Hmw with #Hmw
  -- what the two buffers will hold
  obtain ⟨gb, hgb⟩ : ∃ gb : (t : Fin 2) → Buf (Elt F) ((bufM t).view.loc (thrV d L)), ∀ t y, (bufM t).view.read (Elt F) (gb t) y
      = bufVal (listM.view.read (Elt F) (fetched d L fl fi)) ((tabM t).view.read (Elt F) (tabs d L a b t)) y :=
    ⟨fun t => (exists_buf d L t _).choose, fun t => (exists_buf d L t _).choose_spec⟩
  ihave HR' := (Entails.of_eq (show taskRes d L q (tabs d L a b) fi fu = iprop(idsPts d L fi ∗ _) from rfl)) $$ HR
  icases HR' with ⟨Hi, HR⟩
  iapply (fetch_wp d L _ O W fl fi _) $$ [Hi Hl HsF HO]
  · isplitr; · iexact Hmw
    isplitl [Hi]; · iexact Hi
    isplitl [Hl]; · iexact Hl
    isplitl [HsF]; · iexact HsF
    unfold owing
    iexists W
    isplitr
    · ipureintro; exact fun p hp => Or.inl hp
    · iexact HO
  iintro ⟨Hi, Hl, HsF, HO⟩
  iapply (rest_wp d L q (tabs d L a b) gb (fetched d L fl fi) fi fu (outOf d fi a b) _ O W
    (fun t => match t with | 0 => f1 | 1 => f2)
    (fun y => by rw [read_fetched]; exact hpre _) (read_fetched d L fl fi) hgb
    (fun y => by rw [read_tabs]; rfl)) $$ [Hi HR Hl H1 H2 HsG Hs0 Hs1 HO]
  · isplitr; · iexact Hmw
    isplitl [Hi HR]
    · unfold taskRes
      isplitl [Hi]; · iexact Hi
      iexact HR
    isplitl [Hl]; · iexact Hl
    isplitl [H1 H2]
    · iapply (Entails.of_eq (bigSep_two _).symm)
      isplitl [H1]; · iexact H1
      iexact H2
    isplitl [HsG]; · iexact HsG
    isplitl [Hs0]; · iexact Hs0
    isplitl [Hs1]; · iexact Hs1
    iexact HO
  iintro ⟨HR, Hl, Hb, HsG, Hs0, Hs1, HO⟩
  ihave Hb' := (Entails.of_eq (bigSep_two _)) $$ Hb
  icases Hb' with ⟨H1, H2⟩
  isplitl [HR]; · iexact HR
  isplitl [Hl H1 H2 Hbufs]
  · isplitl [Hl]; · iexists _; iexact Hl
    isplitl [H1]; · iexists _; iexact H1
    isplitl [H2]; · iexists _; iexact H2
    iexact Hbufs
  isplitl [HsG Hs0 Hs1 HsF Hsems]
  · isplitl [HsG]; · iexact HsG
    isplitl [Hs0]; · iexact Hs0
    isplitl [Hs1]; · iexact Hs1
    isplitl [HsF]; · iexact HsF
    iexact Hsems
  unfold owing
  iexact HO

end Body

end Cert.Proof.Gather
-- ==== Proof.Gather.Launch.lean ====
/-
  THE LAUNCH. The thirty-two tasks between them take the square of ids, the two tables and the result; the TensorCore lays
  the ids out as that square, starts the tasks, and has everything back when they are done. So the program runs to its end
  from any memory whose ids name rows of the tables: the arguments are unchanged, the result is what `outOf` says, every
  semaphore is at zero.
-/
module

public import proofs.«01_k».proof.Proof.Gather.Whole
public import Idealize.ShloMosaic.Lib.StableHlo.Run

@[expose] public section

noncomputable section

namespace Cert.Proof.Gather

open Cert.KernelIdeal Cert.KernelIdeal.Gen
open Idealize.ShloMosaic
open Idealize.ShloMosaic.SparseCore (S V)
open Idealize.ShloMosaic.SparseCore.Cfg (HIx Pay)
open Idealize.ShloMosaic.StableHlo (wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The tasks' parts of the arrays are the arrays -/

/-- A task's share of the tables. -/
abbrev qTask (c : Fin 2) (s : Fin 16) : PosShare TreeShare := pieceOf (pieceOf fullShare 2 (by decide) c) 16 (by decide) s

section Arrays

variable (d : Dev nD) (fi : Buf (Elt F) (sLoc d)) (a : Buf (Elt F) (tLoc d)) (b : Buf (Elt F) (cLoc d)) (f : Buf (Elt F) (oLoc d))

/-- The part of the task on subcore `s` of SparseCore `c`, its windows of the result at `f`. -/
def part (c : Fin 2) (s : Fin 16) : sProp 𝕄 := taskRes d (coordsV c s) (qTask c s) (tabs d (coordsV c s) a b) fi f

instance part_storable (c : Fin 2) (s : Fin 16) : BI.Storable (upEmb : UEmb _ 𝕄) (part d fi a b f c s) := by
  unfold part taskRes; infer_instance

theorem ids_parts :
    (bigSep Finset.univ fun i : Fin 2 × Fin 16 => idsPts d (coordsV i.1 i.2) fi) = (sLoc d ↦{fullShare} fi : sProp 𝕄) := by
  refine (pts_windows (thrV d (coordsV ⟨0, by decide⟩ ⟨0, by decide⟩)) idsM.view (fun i : Fin 2 × Fin 16 => fetchR (coordsV i.1 i.2)) _ mem_fetchR fullShare fi).symm.trans ?_
  rw [show idsM.view.set = Finset.univ from View.set_whole _]

theorem out_parts :
    (bigSep Finset.univ fun i : Fin 2 × Fin 16 => bigSep Finset.univ fun t => bigSep Finset.univ fun j => outPts d (coordsV i.1 i.2) f t j)
      = (oLoc d ↦{fullShare} f : sProp 𝕄) := by
  have h := (pts_windows (F := F) (thrV d (coordsV ⟨0, by decide⟩ ⟨0, by decide⟩)) outM.view
    (fun i : (Fin 2 × Fin 16) × Fin 2 × Fin 4 => outR (coordsV i.1.1 i.1.2) i.2.1 i.2.2) _ mem_outR fullShare f).symm
  rw [show outM.view.set = Finset.univ from View.set_whole _] at h
  refine Eq.trans ?_ h
  refine Eq.trans ?_ (BI.bigSep_univ_prod
    (fun i : (Fin 2 × Fin 16) × Fin 2 × Fin 4 => outPts d (coordsV i.1.1 i.1.2) f i.2.1 i.2.2)).symm
  exact bigSep_congr fun i _ => (BI.bigSep_univ_prod (fun x : Fin 2 × Fin 4 => outPts d (coordsV i.1 i.2) f x.1 x.2)).symm

/-- A whole table is the tasks' shares of it. -/
theorem shares (ℓ : Loc nD τ sig) (g : Buf (Elt F) ℓ) :
    (bigSep Finset.univ fun i : Fin 2 × Fin 16 => (ℓ ↦{qTask i.1 i.2} g : sProp 𝕄)) = (ℓ ↦{fullShare} g : sProp 𝕄) := by
  refine (BI.bigSep_univ_prod (fun i : Fin 2 × Fin 16 => (ℓ ↦{qTask i.1 i.2} g : sProp 𝕄))).trans ?_
  refine Eq.trans ?_ (pointsTo_piecesOf (ℓ := ℓ) Finset.univ g (o := 2) (by decide) fullShare).symm
  exact bigSep_congr fun c _ => (pointsTo_piecesOf (ℓ := ℓ) Finset.univ g (o := 16) (by decide) (pieceOf fullShare 2 (by decide) c)).symm

theorem tab_parts :
    (bigSep Finset.univ fun i : Fin 2 × Fin 16 => bigSep Finset.univ fun t =>
        ((tabM t).view.loc (thrV d (coordsV i.1 i.2)) ↦{qTask i.1 i.2} tabs d (coordsV i.1 i.2) a b t : sProp 𝕄))
      = iprop((tLoc d ↦{fullShare} a) ∗ (cLoc d ↦{fullShare} b)) := by
  rw [← shares (tLoc d) a, ← shares (cLoc d) b, ← bigSep_sep']
  exact bigSep_congr fun i _ => bigSep_two _

/-- All the tasks' parts are the square of ids, the tables and the result. -/
theorem parts :
    (bigSep Finset.univ fun c => bigSep Finset.univ fun s => part d fi a b f c s)
      = iprop((sLoc d ↦{fullShare} fi) ∗ ((tLoc d ↦{fullShare} a) ∗ (cLoc d ↦{fullShare} b)) ∗ (oLoc d ↦{fullShare} f)) := by
  rw [← ids_parts, ← tab_parts, ← out_parts, ← bigSep_sep', ← bigSep_sep',
    ← BI.bigSep_univ_prod (fun i : Fin 2 × Fin 16 => part d fi a b f i.1 i.2)]
  rfl

end Arrays

/-! ## What the handshakes carry -/

variable (m : (ℓ : Loc nD τ sig) → Buf (Elt F) ℓ) (ρ : Dev nD → PrngReg)

/-- The ids as a square, at the launch. -/
abbrev square (d : Dev nD) : Buf (Elt F) (sLoc d) :=
  fun i => shapeCast S128x128 (m (aLoc d)) Facts₀.shapeCasts_S16384_S128x128 i

/-- What the proof asks of the launch memory: every id names a row of the tables. -/
def PreOK : Prop := ∀ (d : Dev nD) (j : S16384.Idx), BitVec.toNat (m (aLoc d) j) < 1000000

theorem square_lt (h : PreOK m) (d : Dev nD) (y : S128x128.Idx) : BitVec.toNat (square m d y) < 1000000 := h d _

/-- What the result holds at the end. -/
abbrev outF (d : Dev nD) : Buf (Elt F) (oLoc d) := outOf d (square m d) (m (tLoc d)) (m (cLoc d))

/-- A task's part at its start, and at its end. -/
abbrev goP (d : Dev nD) (c : Fin 2) (s : Fin 16) : sProp (MT nD τ sig (HIx 1) (Elt F) ℕ UU ℕ) := part d (square m d) (m (tLoc d)) (m (cLoc d)) (m (oLoc d)) c s
abbrev tdP (d : Dev nD) (c : Fin 2) (s : Fin 16) : sProp (MT nD τ sig (HIx 1) (Elt F) ℕ UU ℕ) := part d (square m d) (m (tLoc d)) (m (cLoc d)) (outF m d) c s

/-- The call hands each SparseCore its tasks' parts, and each task its own. -/
def P : (K (F := F)).Pay (nD := nD) (Val := Elt F) (Name := ℕ) (U := UU) where
  st := fun q d c => match q with | 0 => bigSep Finset.univ fun s : Fin 16 => goP m d c s
  dn := fun q d c => match q with | 0 => bigSep Finset.univ fun s : Fin 16 => tdP m d c s
  go := fun q d c i => match q with | 0 => goP m d c i
  td := fun q d c i => match q with | 0 => tdP m d c i
  x := fun _ _ => iprop(emp)

instance P_storable : (P (F := F) m).IsStorable where
  st q d c := match q with
    | 0 => (inferInstance : BI.Storable (upEmb : UEmb _ 𝕄) (bigSep Finset.univ fun s : Fin 16 => goP m d c s))
  dn q d c := match q with
    | 0 => (inferInstance : BI.Storable (upEmb : UEmb _ 𝕄) (bigSep Finset.univ fun s : Fin 16 => tdP m d c s))
  go q d c i := match q with | 0 => (inferInstance : BI.Storable (upEmb : UEmb _ 𝕄) (goP m d c i))
  td q d c i := match q with | 0 => (inferInstance : BI.Storable (upEmb : UEmb _ 𝕄) (tdP m d c i))

variable [FloatOps F]

/-! ## The tasks -/

theorem defs₀_vector (c : Fin τ.nSC) (s : Fin τ.nSub) :
    defs₀ (F := F) (.scVector c s) 0 ()
      = SparseCore.onTile hcore0 hsub0 (fun c s => cc0__k (F := F) (coordsV c s)
          idsM (Memref.isWhole_whole _) (tabM 0) (Memref.isWhole_whole _) (tabM 1) (Memref.isWhole_whole _) outM (Memref.isWhole_whole _)
          listM (Memref.isWhole_whole _) (bufM 0) (Memref.isWhole_whole _) (bufM 1) (Memref.isWhole_whole _)
          cc0_scratch3 cc0_scratch4 cc0_scratch5 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (qTask c i) (square m d) (m (tLoc d)) (m (cLoc d)) (m (oLoc d)) hF (square_lt m hpre d) O W hO).trans
    (wp_mono frame _ _ fun _ => obl_post)

theorem vecSplit : (K (F := F)).VecSplit' (P m) 0 := by
  intro d c
  show (bigSep Finset.univ fun s : Fin 16 => goP m d c s) ⊢ |={Set.univ}=> iprop((bigSep Finset.univ fun s : Fin 16 => goP m d c s)
    ∗ ((bigSep Finset.univ fun s : Fin 16 => tdP m d c s) -∗ bigSep Finset.univ fun s : Fin 16 => tdP m d c s))
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev t' : DevRef τ sig := Proc.devRef .tc (main_arg1 : Ref sig .tc)
abbrev c' : DevRef τ sig := Proc.devRef .tc (main_arg2 : Ref sig .tc)
abbrev s' : DevRef τ sig := Proc.devRef .tc (main_v0 : Ref sig .tc)
abbrev o' : DevRef τ sig := Proc.devRef .tc (main_v1 : Ref sig .tc)
abbrev opSq : HloOp τ sig (Elt F) := StableHlo.reshape main_arg0 main_v0 (rfl : (.i32 : EltTy) = .i32) Facts₀.shapeCasts_S16384_S128x128

/-- The TensorCore's arrays. -/
abbrev S5 : Finset (DevRef τ sig) := {a', t', c', s', o'}

omit [FloatOps F] in
theorem held_S5 (d : Dev nD) (W : Valuation τ sig (Elt F)) :
    (StableHlo.held (SparseCore.T d) S5 W : sProp 𝕄)
      = iprop((aLoc d ↦{fullShare} W a') ∗ (tLoc d ↦{fullShare} W t') ∗ (cLoc d ↦{fullShare} W c') ∗ (sLoc d ↦{fullShare} W s') ∗ oLoc d ↦{fullShare} W o') := by
  unfold StableHlo.held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ (cLoc d ↦{fullShare} W main_arg2)
      ∗ (sLoc d ↦{fullShare} W main_v0) ∗ oLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- The launch valuation, and the one with the ids laid out. -/
def V0 (d : Dev nD) : Valuation τ sig (Elt F) := fun b => m (d, b)
abbrev V1 (d : Dev nD) : Valuation τ sig (Elt F) := (opSq (F := F)).result (V0 m d)

theorem unscoped_held (d : Dev nD) : (unscopedBufs d (fun b => m ((SparseCore.T d).loc b)) : sProp 𝕄) = StableHlo.held (SparseCore.T d) S5 (V0 m d) := by
  rw [unscopedBufs_eq, held_S5]; rfl

theorem held_V1 (d : Dev nD) :
    (StableHlo.held (SparseCore.T d) S5 (V1 m d) : sProp 𝕄)
      = iprop((aLoc d ↦{fullShare} m (aLoc d)) ∗ (tLoc d ↦{fullShare} m (tLoc d)) ∗ (cLoc d ↦{fullShare} m (cLoc d))
          ∗ (sLoc d ↦{fullShare} square m d) ∗ oLoc d ↦{fullShare} m (oLoc d)) := by
  rw [held_S5]
  have hne : ∀ r : DevRef τ sig, r ∉ ({s'} : Finset (DevRef τ sig)) → V1 m d r = V0 m d r := fun r h => (opSq (F := F)).result_of_not_mem (V0 m d) h
  rw [hne a' (by decide), hne t' (by decide), hne c' (by decide), hne o' (by decide),
    show V1 m d s' = square m d from StableHlo.reshape_result' _ _ _ _ _]
  rfl

theorem hSq : (opSq (F := F)).bufs ⊆ S5 := show ({a', s'} : Finset (DevRef τ sig)) ⊆ S5 by decide

/-- What the call takes for its two SparseCores, and what it hands back. -/
theorem st0_eq (d : Dev nD) : (bigSep Finset.univ fun c : Fin ((K (F := F)).nCore 0) => (P m).st 0 d c)
    = iprop((sLoc d ↦{fullShare} square m d) ∗ ((tLoc d ↦{fullShare} m (tLoc d)) ∗ (cLoc d ↦{fullShare} m (cLoc d))) ∗ (oLoc d ↦{fullShare} m (oLoc d))) :=
  parts d (square m d) (m (tLoc d)) (m (cLoc d)) (m (oLoc d))
theorem dn0_eq (d : Dev nD) : (bigSep Finset.univ fun c : Fin ((K (F := F)).nCore 0) => (P m).dn 0 d c)
    = iprop((sLoc d ↦{fullShare} square m d) ∗ ((tLoc d ↦{fullShare} m (tLoc d)) ∗ (cLoc d ↦{fullShare} m (cLoc d))) ∗ (oLoc d ↦{fullShare} outF m d)) :=
  parts d (square m d) (m (tLoc d)) (m (cLoc d)) (outF m d)

/-- The arguments as they were, and the result. -/
abbrev FIN (d : Dev nD) : sProp (MT nD τ sig (HIx 1) (Elt F) ℕ UU ℕ) :=
  iprop((aLoc d ↦{fullShare} m (aLoc d)) ∗ (tLoc d ↦{fullShare} m (tLoc d)) ∗ (cLoc d ↦{fullShare} m (cLoc d)) ∗ (oLoc d ↦{fullShare} outF m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opSq) (S := S5) hSq (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Ha, Ht, Hc, Hs, Ho⟩
  iapply ((K (F := F)).wp_run (D (F := F)) 𝒱 (EH := EH) (P := P m) κ d 0) $$ [Hst Ha Ht Hc Hs Ho Hb Hts]
  isplitr; · iexact Hctx
  isplitl [Hst]; · iexact Hst
  isplitl [Ht Hc Hs Ho]
  · rw [st0_eq]
    isplitl [Hs]; · iexact Hs
    isplitl [Ht Hc]
    · isplitl [Ht]; · iexact Ht
      iexact Hc
    iexact Ho
  iintro ⟨Hst, Hdn⟩
  ihave Hdn' := (Entails.of_eq (dn0_eq m d)) $$ Hdn
  icases Hdn' with ⟨-, ⟨Ht, Hc⟩, Ho⟩
  imodintro
  isplitl [Hst]; · iexact Hst
  isplitr [Hb Hts]
  · isplitl [Ha]; · iexact Ha
    isplitl [Ht]; · iexact Ht
    isplitl [Hc]; · iexact Hc
    iexact Ho
  isplitl [Hb] <;> iassumption

/-- What the final memory of device `d` holds. -/
def Ends (mem : (ℓ : Loc nD τ sig) → Buf (Elt F) ℓ) (d : Dev nD) : Prop :=
  mem (oLoc d) = outF m d ∧ mem (aLoc d) = m (aLoc d) ∧ mem (tLoc d) = m (tLoc d) ∧ mem (cLoc d) = m (cLoc d)

set_option maxRecDepth 16384 in
theorem hfin (d : Dev nD) (s : Phys nD τ sig (Elt F)) : iprop(FIN m d ∗ SI s) ⊢ (⌜Ends m s.mem.mem d⌝ : sProp 𝕄) := by
  iintro ⟨⟨Ha, Ht, Hc, Ho⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s) (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s) (ℓ := cLoc d) (I := Finset.univ) (q := fullShare) (f := m (cLoc d)))) $$ [HSI Hc]
  · isplitl [HSI] <;> iassumption
  icases H with ⟨%h3, HSI, -⟩
  ihave H := (SI_pointsTo_agree (st := s) (ℓ := oLoc d) (I := Finset.univ) (q := fullShare) (f := outF m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-! ## The program's run -/

/-- The program runs to its end from any memory whose ids name rows: the result is the gathered rows, the arguments are as
    they were, every semaphore is at zero. -/
theorem run_main [∀ e, Nonempty (Elt F e)] (hpre : PreOK m) :
    θ_run (Cert.KernelIdeal.defs (F := F)) (Cert.KernelIdeal.threads (F := F)) ⟨m, fun _ => 0, ρ⟩
      (fun r => (∀ d, Ends m r.2.mem d) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fun d s => Ends m s.mem.mem d) (hfin m) _ (fun _ h hz => ⟨h, hz⟩)

end Cert.Proof.Gather
-- ==== Proof.Gather.Reference.lean ====
/-
  THE REFERENCE'S VALUE. The reference takes the rows that the ids name out of each table and sets the two arrays of
  rows side by side. Its take first adds the number of rows to a negative id, and puts a NaN wherever an id still names
  no row; for ids that name rows it does neither. So its result is the very function of the three arrays that the
  kernel's is (Proof/Gather/Values.lean, `outVal`). The precondition says that the ids name rows.
-/
module

public import proofs.«01_k».proof.Proof.Gather.Values
public import proofs.«01_k».proof.Proof.Gen.ReferenceIdeal.Run
public import proofs.«01_k».proof.Proof.Gen.Pre_ids_in_rows
public import Idealize.ShloMosaic.Lib.Routing.Ops
public import Idealize.ShloMosaic.Lib.ReduceAll

@[expose] public section

noncomputable section

namespace Cert.Proof.Gather

open Cert.ReferenceIdeal Cert.ReferenceIdeal.Gen
open Idealize.ShloMosaic
open Idealize.ShloMosaic.ValueIdx

variable {F : FTy → Type} [FloatOps F]

/-! ## Words -/

/-- The precondition of one id: it names a row. -/
theorem lt_of_inRows (v : BitVec 32) (h : IntOp.andi (IntOp.cmpi .sge v 0#32) (IntOp.cmpi .slt v 1000000#32) = 1#1) : v.toNat < 1000000 := by
  have both : ∀ p q : Bool, IntOp.andi (BitVec.ofBool p) (BitVec.ofBool q) = 1#1 → p = true ∧ q = true := by decide
  have h0 : (0#32).sle v = true := (both _ _ h).1
  have h1 : v.slt 1000000#32 = true := (both _ _ h).2
  rw [BitVec.sle_eq_decide, decide_eq_true_eq, BitVec.toInt_eq_toNat_cond, BitVec.toInt_eq_toNat_cond] at h0
  rw [BitVec.slt_eq_decide, decide_eq_true_eq, BitVec.toInt_eq_toNat_cond, BitVec.toInt_eq_toNat_cond] at h1
  simp only [BitVec.toNat_ofNat, Nat.reducePow, Nat.reduceMod] at h0 h1
  omega

section Word

variable (v : BitVec 32) (h : v.toNat < 1000000)
include h

theorem toInt_row : v.toInt = v.toNat := by
  rw [BitVec.toInt_eq_toNat_cond, if_pos (by omega)]

/-- The id of a row is not negative. -/
theorem slt_zero : IntOp.cmpi .slt v 0#32 = 0#1 := by
  show BitVec.ofBool (v.slt 0#32) = 0#1
  rw [BitVec.slt_eq_decide, toInt_row v h, decide_eq_false (by simp)]
  rfl

/-- The id of a row is between the first row and the last. -/
theorem between : IntOp.andi (IntOp.cmpi .sge v 0#32) (IntOp.cmpi .sle v 999999#32) = 1#1 := by
  show IntOp.andi (BitVec.ofBool ((0#32).sle v)) (BitVec.ofBool (v.sle 999999#32)) = 1#1
  rw [BitVec.sle_eq_decide, BitVec.sle_eq_decide, toInt_row v h, decide_eq_true (by simp),
    decide_eq_true (show (v.toNat : Int) ≤ (999999#32).toInt by
      rw [show (999999#32).toInt = 999999 by decide]; omega)]
  decide

end Word

/-! ## The precondition -/

/-- The precondition holds where it is all ones: every id then names a row. -/
theorem ids_lt (ids : IVec S16384 32) (a b : FVec F S1000000x32 .f32) (h : Cert.Pre_ids_in_rows.fn (F := F) ids a b = fun _ => 1#1)
    (j : S16384.Idx) : (ids j).toNat < 1000000 :=
  lt_of_inRows (ids j) (congrFun h j)

/-! ## One take -/

/-- A selection reads its first operand where the mask is one. -/
theorem select_of_one {s : Shape} {α : Type} (p : IVec s 1) (u w : s.Idx → α) (x : s.Idx) (h : p x = 1#1) : select p u w x = u x := if_pos h

section Take

variable (ids : IVec S16384 32)

/-- The ids the take looks up: a negative one has the number of rows added. -/
abbrev lookups : IVec S16384 32 :=
  select (cmpi .slt ids (broadcastInDim S16384 ![] bcast_S_S16384 (constantI S_ 32 0#32)))
    (addi ids (broadcastInDim S16384 ![] bcast_S_S16384 (constantI S_ 32 1000000#32))) ids

/-- They, as the one column of an array. -/
abbrev column : IVec S16384x1 32 := broadcastInDim S16384x1 ![0] bcast_S16384_S16384x1_0 (lookups ids)

/-- Which of them name rows. -/
abbrev valid : IVec S16384x1 1 :=
  andi (cmpi .sge (column ids) (broadcastInDim S16384x1 ![] bcast_S_S16384x1 (constantI S_ 32 0#32)))
    (cmpi .sle (column ids) (broadcastInDim S16384x1 ![0, 1] bcast_S1x1_S16384x1_0_1 (broadcastInDim S1x1 ![1] bcast_S1_S1x1_1 (constantI S1 32 999999#32))))

/-- The take of one table. -/
abbrev took (tab : FVec F S1000000x32 .f32) : FVec F S16384x32 .f32 :=
  select (broadcastInDim S16384x32 ![0] bcast_S16384_S16384x32_0
      (Host.reduce IntOp.andi (valid ids) (constantI S_ 1 1#1) reducesTo_S16384x1_S16384_d1 h_S_))
    (Host.gather gather_S1000000x32_S16384x1_S16384x32_1_0_n_n_0_1_132 tab (column ids))
    (broadcastInDim S16384x32 ![] bcast_S_S16384x32 (constant S_ .f32 0x7FC00000#32))

variable (hids : ∀ j, (ids j).toNat < 1000000)
include hids

theorem lookups_apply (j : S16384.Idx) : lookups ids j = ids j := by
  show (if IntOp.cmpi .slt (ids j) 0#32 = 1#1 then _ else ids j) = ids j
  rw [slt_zero _ (hids j), if_neg (by decide)]

theorem column_apply (r : Fin 16384) : column ids (ix2 r (0 : Fin 1)) = ids (ix1 r) :=
  (Routing.bcCol (n := 16384) bcast_S16384_S16384x1_0 (lookups ids) r).trans (lookups_apply ids hids _)

theorem valid_apply (x : S16384x1.Idx) : valid ids x = 1#1 := by
  have hx : column ids x = ids (ix1 (x 0)) :=
    (congrArg (column ids) (eq_ix2 (n0 := 16384) (n1 := 1) x)).trans
      ((congrArg (fun z : Fin 1 => column ids (ix2 (x 0) z)) (Subsingleton.elim (α := Fin 1) _ 0)).trans (column_apply ids hids (x 0)))
  show IntOp.andi (IntOp.cmpi .sge (column ids x) 0#32) (IntOp.cmpi .sle (column ids x) 999999#32) = 1#1
  rw [hx]
  exact between _ (hids _)

/-- The take reads, in row `r`, the row of the table that id `r` names. -/
theorem took_apply (tab : FVec F S1000000x32 .f32) (r : Fin 16384) (y : Fin 32) :
    took ids tab (ix2 r y) = tab (ix2 (rowNo (ids (ix1 r))) y) := by
  have hmask : broadcastInDim S16384x32 ![0] bcast_S16384_S16384x32_0
      (Host.reduce IntOp.andi (valid ids) (constantI S_ 1 1#1) reducesTo_S16384x1_S16384_d1 h_S_) (ix2 r y) = 1#1 :=
    Host.reduce_andi_one (valid ids) (constantI S_ 1 1#1) reducesTo_S16384x1_S16384_d1 h_S_ _ rfl (valid_apply ids hids)
  refine (select_of_one _ _ _ _ hmask).trans ?_
  refine Routing.gather_row (nb := 1000000) (B := 32) (n := 16384) _ rfl rfl rfl rfl rfl tab (column ids) r y (rowNo (ids (ix1 r))) ?_ (by decide)
  rw [column_apply ids hids, rowNo_val (hids _), BitVec.ofNat_toNat, BitVec.setWidth_eq]

end Take

/-! ## The two takes side by side -/

/-- The reference's result is the kernel's, the square of ids being the ids laid out in rows of 128. -/
theorem takes_eq (ids : IVec S16384 32) (hids : ∀ j, (ids j).toNat < 1000000) (a b : FVec F S1000000x32 .f32)
    (sq : Cert.KernelIdeal.S128x128.Idx → BitVec 32)
    (hsq : ∀ (p q : Fin 128) (r : Fin 16384), r.val = p.val * 128 + q.val → sq (ix2 p q) = ids (ix1 r)) (tab : Fin 2 → S1000000x32.Idx → F .f32)
    (h0 : tab 0 = a) (h1 : tab 1 = b) :
    concatenate S16384x64 1 [⟨S16384x32, took ids a⟩, ⟨S16384x32, took ids b⟩] concatenates_S16384x32_S16384x32_S16384x64_d1 = outVal sq tab := by
  funext x
  obtain ⟨r, c, rfl⟩ : ∃ (r : Fin 16384) (c : Fin 64), x = ix2 r c := ⟨x 0, x 1, eq_ix2 (n0 := 16384) (n1 := 64) x⟩
  have hlt := c.isLt
  refine Eq.trans ?_ (congrArg (fun w => sideBySide tab w c) (hsq _ _ r (by
    show r.val = r.val / 128 * 128 + r.val % 128
    omega)).symm)
  by_cases hc : c.val < 32
  · refine Eq.trans ?_ (dif_pos hc).symm
    rw [h0]
    refine Eq.trans ?_ (took_apply ids hids a r ⟨c.val, hc⟩)
    refine concatenate_pair_apply_left (t := S16384x64) 1 (took ids a) (took ids b) _ (ix2 r c) rfl (ix2 r ⟨c.val, hc⟩) fun e => ?_
    match e with
    | 0 => rfl
    | 1 => rfl
  · refine Eq.trans ?_ (dif_neg hc).symm
    rw [h1]
    refine Eq.trans ?_ (took_apply ids hids b r ⟨c.val - 32, by omega⟩)
    refine concatenate_pair_apply_right (t := S16384x64) 1 (took ids a) (took ids b) _ (ix2 r c) rfl rfl (ix2 r ⟨c.val - 32, by omega⟩) (fun e he => ?_) ?_
    · match e with
      | 0 => rfl
      | 1 => exact absurd rfl he
    · show c.val - 32 + 32 = c.val
      omega

end Cert.Proof.Gather

end
-- ==== Proof.lean ====
/-
  THE PROOF of `Cert.Claim` (Defs.lean). The kernel's run is `Gather.run_main` (Proof/Gather/Launch.lean), at any float
  values: from ids that name rows, it ends with the arguments unchanged, the result at `Gather.outF` and every semaphore
  at zero. The kernel and its idealization are one text, so the one theorem serves both frames. The reference's run is its
  generated straight line, and its result is the same function of the arguments (Proof/Gather/Reference.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_rows
public import proofs.«01_k».proof.Proof.Gather.Launch
public import proofs.«01_k».proof.Proof.Gather.Reference
public import Idealize.ShloMosaic.Adequacy
public import Idealize.ShloMosaic.Init

@[expose] public section

noncomputable section

namespace Cert.Proof

open Idealize.ShloMosaic Idealize.SL.Sem
open Idealize.ShloMosaic.ValueIdx

/-- `Cert.quiescent_Kernel`: the kernel's run at the bit-exact values. -/
theorem frame_kernel : Cert.quiescent_Kernel := fun m g hpre =>
  (θ_run Cert.KernelIdeal.defs _ _).mono (fun _ h => ⟨fun c => (h.1 c).2, h.2⟩)
    (Gather.run_main (F := Bits) m g fun d => Gather.ids_lt _ _ _ (hpre d))

/-- `Cert.quiescent_KernelIdeal`: the same run at the ideal values. -/
theorem frame_ideal : Cert.quiescent_KernelIdeal := fun m g hpre =>
  (θ_run Cert.KernelIdeal.defs _ _).mono (fun _ h => ⟨fun c => (h.1 c).2, h.2⟩)
    (Gather.run_main (F := Ideal) m g fun d => Gather.ids_lt _ _ _ (hpre d))

/-- `Cert.quiescent_ReferenceIdeal`: the reference's run read at its arguments; it declares no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition, which it does not need. -/
theorem frame_reference_pre : Cert.quiescent_ReferenceIdeal_pre_ids_in_rows := fun m g _ => frame_reference m g trivial

/-- The square of ids holds id `128 * p + q` in row `p`, column `q`. -/
theorem square_apply (m : (ℓ : Loc Cert.KernelIdeal.nD Cert.KernelIdeal.τ Cert.KernelIdeal.sig) → Buf (Elt Ideal) ℓ) (d : Dev Cert.KernelIdeal.nD)
    (p q : Fin 128) (r : Fin 16384) (hr : r.val = p.val * 128 + q.val) : Gather.square m d (ix2 p q) = m (Gather.aLoc d) (ix1 r) :=
  Routing.cast12 (a := 128) (b := 128) (n := 16384) _ _ p q r hr

/-- `Cert.algebraic_KernelIdeal_ReferenceIdeal`: the value the two share is `Gather.outF` of the kernel's arguments. -/
theorem algebraic : Cert.algebraic_KernelIdeal_ReferenceIdeal := by
  intro m g m' g' hpre hagree
  have hids : Gather.PreOK m := fun d => Gather.ids_lt _ _ _ (hpre d)
  refine ⟨fun c => Gather.outF m c, (θ_run Cert.KernelIdeal.defs _ _).mono (fun _ h c => h.1 c) (Gather.run_main (F := Ideal) m g hids), ?_⟩
  refine (θ_run Cert.ReferenceIdeal.defs _ _).mono (fun _ h c => ⟨(h c).1.trans ?_, (h c).2⟩) (Cert.ReferenceIdeal.Value.run (F := Ideal) m' g')
  rw [(hagree c).1, (hagree c).2.1, (hagree c).2.2]
  exact Gather.takes_eq (F := Ideal) (m (Gather.aLoc c)) (hids c) (m (Gather.tLoc c)) (m (Gather.cLoc c)) (Gather.square m c) (square_apply m c)
    (Gather.pair (m (Gather.tLoc c)) (m (Gather.cLoc c))) rfl rfl

theorem claim : Cert.Claim :=
  ⟨Cert.Kernel.Gen.facts, Cert.KernelIdeal.Gen.facts, Cert.ReferenceIdeal.Gen.facts, Cert.Pre_ids_in_rows.Gen.facts,
    frame_kernel, frame_ideal, frame_reference, frame_reference_pre, trivial, algebraic⟩

end Cert.Proof

end
